-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x1024 : Shape := ⟨3, ![8, 1024, 1024]⟩
abbrev S8x2048x1024 : Shape := ⟨3, ![8, 2048, 1024]⟩
abbrev S8x128x1024 : Shape := ⟨3, ![8, 128, 1024]⟩
abbrev S8x32x1024 : Shape := ⟨3, ![8, 32, 1024]⟩
abbrev S1024x768 : Shape := ⟨2, ![1024, 768]⟩
abbrev S768 : Shape := ⟨1, ![768]⟩
abbrev S5x768 : Shape := ⟨2, ![5, 768]⟩
abbrev S4096x768 : Shape := ⟨2, ![4096, 768]⟩
abbrev S1x768 : Shape := ⟨2, ![1, 768]⟩
abbrev S4x768 : Shape := ⟨2, ![4, 768]⟩
abbrev S4x1x768 : Shape := ⟨3, ![4, 1, 768]⟩
abbrev S8x3232x768 : Shape := ⟨3, ![8, 3232, 768]⟩
abbrev S2x8x256x1024 : Shape := ⟨4, ![2, 8, 256, 1024]⟩
abbrev S2x8x256x768 : Shape := ⟨4, ![2, 8, 256, 768]⟩
abbrev S2x256x768 : Shape := ⟨3, ![2, 256, 768]⟩
abbrev S4x1024x768 : Shape := ⟨3, ![4, 1024, 768]⟩
abbrev S2 : Shape := ⟨1, ![2]⟩
abbrev S4 : Shape := ⟨1, ![4]⟩
abbrev S1 : Shape := ⟨1, ![1]⟩
abbrev S_ : Shape := ⟨0, ![]⟩
abbrev S1x1024x768 : Shape := ⟨3, ![1, 1024, 768]⟩
abbrev S1x4x256x1024 : Shape := ⟨4, ![1, 4, 256, 1024]⟩
abbrev S4x256x1024 : Shape := ⟨3, ![4, 256, 1024]⟩
abbrev S1x256x768 : Shape := ⟨3, ![1, 256, 768]⟩
abbrev S256x768 : Shape := ⟨2, ![256, 768]⟩
abbrev S1x4x128x1024 : Shape := ⟨4, ![1, 4, 128, 1024]⟩
abbrev S4x128x1024 : Shape := ⟨3, ![4, 128, 1024]⟩
abbrev S1x128x768 : Shape := ⟨3, ![1, 128, 768]⟩
abbrev S128x768 : Shape := ⟨2, ![128, 768]⟩
abbrev S1x4x32x1024 : Shape := ⟨4, ![1, 4, 32, 1024]⟩
abbrev S4x32x1024 : Shape := ⟨3, ![4, 32, 1024]⟩
abbrev S1x32x768 : Shape := ⟨3, ![1, 32, 768]⟩
abbrev S32x768 : Shape := ⟨2, ![32, 768]⟩
abbrev S1x1x768 : Shape := ⟨3, ![1, 1, 768]⟩
abbrev S4x256x768 : Shape := ⟨3, ![4, 256, 768]⟩
abbrev S1x4x256x768 : Shape := ⟨4, ![1, 4, 256, 768]⟩
abbrev S1x1x256x1024 : Shape := ⟨4, ![1, 1, 256, 1024]⟩
abbrev S256x1024 : Shape := ⟨2, ![256, 1024]⟩
abbrev S256 : Shape := ⟨1, ![256]⟩
abbrev S256x1 : Shape := ⟨2, ![256, 1]⟩
abbrev S1x1x256x768 : Shape := ⟨4, ![1, 1, 256, 768]⟩
abbrev S4x128x768 : Shape := ⟨3, ![4, 128, 768]⟩
abbrev S1x4x128x768 : Shape := ⟨4, ![1, 4, 128, 768]⟩
abbrev S4x32x768 : Shape := ⟨3, ![4, 32, 768]⟩
abbrev S1x4x32x768 : Shape := ⟨4, ![1, 4, 32, 768]⟩
abbrev S8x3232 : Shape := ⟨2, ![8, 3232]⟩

abbrev nBuf : Space → Nat
  | .hbm => 39
  | .vmem => 9
  | .smem => 0
  | _ => 0

abbrev bufTy : (tb : Table) → Fin (tcTables nBuf tb) → BufTy
  | .hbm, ⟨0, _⟩ => ⟨S8x1024x1024, .f32⟩
  | .hbm, ⟨1, _⟩ => ⟨S8x2048x1024, .f32⟩
  | .hbm, ⟨2, _⟩ => ⟨S8x128x1024, .f32⟩
  | .hbm, ⟨3, _⟩ => ⟨S8x32x1024, .f32⟩
  | .hbm, ⟨4, _⟩ => ⟨S1024x768, .f32⟩
  | .hbm, ⟨5, _⟩ => ⟨S768, .f32⟩
  | .hbm, ⟨6, _⟩ => ⟨S1024x768, .f32⟩
  | .hbm, ⟨7, _⟩ => ⟨S768, .f32⟩
  | .hbm, ⟨8, _⟩ => ⟨S1024x768, .f32⟩
  | .hbm, ⟨9, _⟩ => ⟨S768, .f32⟩
  | .hbm, ⟨10, _⟩ => ⟨S1024x768, .f32⟩
  | .hbm, ⟨11, _⟩ => ⟨S768, .f32⟩
  | .hbm, ⟨12, _⟩ => ⟨S5x768, .f32⟩
  | .hbm, ⟨13, _⟩ => ⟨S4096x768, .f32⟩
  | .hbm, ⟨14, _⟩ => ⟨S768, .f32⟩
  | .hbm, ⟨15, _⟩ => ⟨S768, .f32⟩
  | .hbm, ⟨16, _⟩ => ⟨S1x768, .f32⟩
  | .hbm, ⟨17, _⟩ => ⟨S768, .f32⟩
  | .hbm, ⟨18, _⟩ => ⟨S768, .f32⟩
  | .hbm, ⟨19, _⟩ => ⟨S1x768, .f32⟩
  | .hbm, ⟨20, _⟩ => ⟨S768, .f32⟩
  | .hbm, ⟨21, _⟩ => ⟨S768, .f32⟩
  | .hbm, ⟨22, _⟩ => ⟨S1x768, .f32⟩
  | .hbm, ⟨23, _⟩ => ⟨S768, .f32⟩
  | .hbm, ⟨24, _⟩ => ⟨S768, .f32⟩
  | .hbm, ⟨25, _⟩ => ⟨S1x768, .f32⟩
  | .hbm, ⟨26, _⟩ => ⟨S768, .f32⟩
  | .hbm, ⟨27, _⟩ => ⟨S768, .f32⟩
  | .hbm, ⟨28, _⟩ => ⟨S1x768, .f32⟩
  | .hbm, ⟨29, _⟩ => ⟨S1x768, .f32⟩
  | .hbm, ⟨30, _⟩ => ⟨S1x768, .f32⟩
  | .hbm, ⟨31, _⟩ => ⟨S1x768, .f32⟩
  | .hbm, ⟨32, _⟩ => ⟨S4x768, .f32⟩
  | .hbm, ⟨33, _⟩ => ⟨S4x1x768, .f32⟩
  | .hbm, ⟨34, _⟩ => ⟨S1x768, .f32⟩
  | .hbm, ⟨35, _⟩ => ⟨S1x768, .f32⟩
  | .hbm, ⟨36, _⟩ => ⟨S8x3232x768, .f32⟩
  | .hbm, ⟨37, _⟩ => ⟨S_, .i1⟩
  | .hbm, ⟨38, _⟩ => ⟨S8x3232, .i1⟩
  | .local _ .vmem, ⟨0, _⟩ => ⟨S4x1x768, .f32⟩
  | .local _ .vmem, ⟨1, _⟩ => ⟨S1x768, .f32⟩
  | .local _ .vmem, ⟨2, _⟩ => ⟨S1x768, .f32⟩
  | .local _ .vmem, ⟨3, _⟩ => ⟨S2x8x256x1024, .f32⟩
  | .local _ .vmem, ⟨4, _⟩ => ⟨S2x8x256x768, .f32⟩
  | .local _ .vmem, ⟨5, _⟩ => ⟨S2x256x768, .f32⟩
  | .local _ .vmem, ⟨6, _⟩ => ⟨S4x1024x768, .f32⟩
  | .local _ .vmem, ⟨7, _⟩ => ⟨S1024x768, .bf16⟩
  | .local _ .vmem, ⟨8, _⟩ => ⟨S1x768, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![14], ![false]⟩

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8x1024x1024 : Shape := ⟨3, ![8, 1024, 1024]⟩
abbrev S8x2048x1024 : Shape := ⟨3, ![8, 2048, 1024]⟩
abbrev S8x128x1024 : Shape := ⟨3, ![8, 128, 1024]⟩
abbrev S8x32x1024 : Shape := ⟨3, ![8, 32, 1024]⟩
abbrev S1024x768 : Shape := ⟨2, ![1024, 768]⟩
abbrev S768 : Shape := ⟨1, ![768]⟩
abbrev S5x768 : Shape := ⟨2, ![5, 768]⟩
abbrev S4096x768 : Shape := ⟨2, ![4096, 768]⟩
abbrev S8x1024x768 : Shape := ⟨3, ![8, 1024, 768]⟩
abbrev S1x1x768 : Shape := ⟨3, ![1, 1, 768]⟩
abbrev S8x2048x768 : Shape := ⟨3, ![8, 2048, 768]⟩
abbrev S8x128x768 : Shape := ⟨3, ![8, 128, 768]⟩
abbrev S8x32x768 : Shape := ⟨3, ![8, 32, 768]⟩
abbrev S8x3232x768 : Shape := ⟨3, ![8, 3232, 768]⟩
abbrev S_ : Shape := ⟨0, ![]⟩
abbrev S1024 : Shape := ⟨1, ![1024]⟩
abbrev S2048 : Shape := ⟨1, ![2048]⟩
abbrev S128 : Shape := ⟨1, ![128]⟩
abbrev S32 : Shape := ⟨1, ![32]⟩
abbrev S3232 : Shape := ⟨1, ![3232]⟩
abbrev S3232x1 : Shape := ⟨2, ![3232, 1]⟩
abbrev S1 : Shape := ⟨1, ![1]⟩
abbrev S1x1 : Shape := ⟨2, ![1, 1]⟩
abbrev S3232x768 : Shape := ⟨2, ![3232, 768]⟩
abbrev S1x3232x768 : Shape := ⟨3, ![1, 3232, 768]⟩
abbrev S8x3232 : Shape := ⟨2, ![8, 3232]⟩
abbrev S8x3232x1 : Shape := ⟨3, ![8, 3232, 1]⟩

abbrev nBuf : Space → Nat
  | .hbm => 126
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x2048x1024, .f32⟩
  | .hbm, ⟨2, _⟩ => ⟨S8x128x1024, .f32⟩
  | .hbm, ⟨3, _⟩ => ⟨S8x32x1024, .f32⟩
  | .hbm, ⟨4, _⟩ => ⟨S1024x768, .f32⟩
  | .hbm, ⟨5, _⟩ => ⟨S768, .f32⟩
  | .hbm, ⟨6, _⟩ => ⟨S1024x768, .f32⟩
  | .hbm, ⟨7, _⟩ => ⟨S768, .f32⟩
  | .hbm, ⟨8, _⟩ => ⟨S1024x768, .f32⟩
  | .hbm, ⟨9, _⟩ => ⟨S768, .f32⟩
  | .hbm, ⟨10, _⟩ => ⟨S1024x768, .f32⟩
  | .hbm, ⟨11, _⟩ => ⟨S768, .f32⟩
  | .hbm, ⟨12, _⟩ => ⟨S5x768, .f32⟩
  | .hbm, ⟨13, _⟩ => ⟨S4096x768, .f32⟩
  | .hbm, ⟨14, _⟩ => ⟨S768, .f32⟩
  | .hbm, ⟨15, _⟩ => ⟨S768, .f32⟩
  | .hbm, ⟨16, _⟩ => ⟨S8x1024x768, .f32⟩
  | .hbm, ⟨17, _⟩ => ⟨S1x1x768, .f32⟩
  | .hbm, ⟨18, _⟩ => ⟨S8x1024x768, .f32⟩
  | .hbm, ⟨19, _⟩ => ⟨S8x1024x768, .f32⟩
  | .hbm, ⟨20, _⟩ => ⟨S8x2048x768, .f32⟩
  | .hbm, ⟨21, _⟩ => ⟨S1x1x768, .f32⟩
  | .hbm, ⟨22, _⟩ => ⟨S8x2048x768, .f32⟩
  | .hbm, ⟨23, _⟩ => ⟨S8x2048x768, .f32⟩
  | .hbm, ⟨24, _⟩ => ⟨S8x128x768, .f32⟩
  | .hbm, ⟨25, _⟩ => ⟨S1x1x768, .f32⟩
  | .hbm, ⟨26, _⟩ => ⟨S8x128x768, .f32⟩
  | .hbm, ⟨27, _⟩ => ⟨S8x128x768, .f32⟩
  | .hbm, ⟨28, _⟩ => ⟨S8x32x768, .f32⟩
  | .hbm, ⟨29, _⟩ => ⟨S1x1x768, .f32⟩
  | .hbm, ⟨30, _⟩ => ⟨S8x32x768, .f32⟩
  | .hbm, ⟨31, _⟩ => ⟨S8x32x768, .f32⟩
  | .hbm, ⟨32, _⟩ => ⟨S8x3232x768, .f32⟩
  | .hbm, ⟨33, _⟩ => ⟨S_, .i32⟩
  | .hbm, ⟨34, _⟩ => ⟨S1024, .i32⟩
  | .hbm, ⟨35, _⟩ => ⟨S_, .i32⟩
  | .hbm, ⟨36, _⟩ => ⟨S2048, .i32⟩
  | .hbm, ⟨37, _⟩ => ⟨S_, .i32⟩
  | .hbm, ⟨38, _⟩ => ⟨S128, .i32⟩
  | .hbm, ⟨39, _⟩ => ⟨S_, .i32⟩
  | .hbm, ⟨40, _⟩ => ⟨S32, .i32⟩
  | .hbm, ⟨41, _⟩ => ⟨S3232, .i32⟩
  | .hbm, ⟨42, _⟩ => ⟨S_, .i32⟩
  | .hbm, ⟨43, _⟩ => ⟨S3232, .i32⟩
  | .hbm, ⟨44, _⟩ => ⟨S3232, .i1⟩
  | .hbm, ⟨45, _⟩ => ⟨S_, .i32⟩
  | .hbm, ⟨46, _⟩ => ⟨S3232, .i32⟩
  | .hbm, ⟨47, _⟩ => ⟨S3232, .i32⟩
  | .hbm, ⟨48, _⟩ => ⟨S3232, .i32⟩
  | .hbm, ⟨49, _⟩ => ⟨S3232x1, .i32⟩
  | .hbm, ⟨50, _⟩ => ⟨S1, .i32⟩
  | .hbm, ⟨51, _⟩ => ⟨S_, .i32⟩
  | .hbm, ⟨52, _⟩ => ⟨S3232x1, .i32⟩
  | .hbm, ⟨53, _⟩ => ⟨S3232x1, .i1⟩
  | .hbm, ⟨54, _⟩ => ⟨S1x1, .i32⟩
  | .hbm, ⟨55, _⟩ => ⟨S3232x1, .i32⟩
  | .hbm, ⟨56, _⟩ => ⟨S3232x1, .i1⟩
  | .hbm, ⟨57, _⟩ => ⟨S3232x1, .i1⟩
  | .hbm, ⟨58, _⟩ => ⟨S_, .i1⟩
  | .hbm, ⟨59, _⟩ => ⟨S3232, .i1⟩
  | .hbm, ⟨60, _⟩ => ⟨S3232x768, .f32⟩
  | .hbm, ⟨61, _⟩ => ⟨S3232x768, .i1⟩
  | .hbm, ⟨62, _⟩ => ⟨S_, .f32⟩
  | .hbm, ⟨63, _⟩ => ⟨S3232x768, .f32⟩
  | .hbm, ⟨64, _⟩ => ⟨S3232x768, .f32⟩
  | .hbm, ⟨65, _⟩ => ⟨S3232, .i32⟩
  | .hbm, ⟨66, _⟩ => ⟨S_, .i32⟩
  | .hbm, ⟨67, _⟩ => ⟨S3232, .i32⟩
  | .hbm, ⟨68, _⟩ => ⟨S3232, .i1⟩
  | .hbm, ⟨69, _⟩ => ⟨S_, .i32⟩
  | .hbm, ⟨70, _⟩ => ⟨S3232, .i32⟩
  | .hbm, ⟨71, _⟩ => ⟨S3232, .i32⟩
  | .hbm, ⟨72, _⟩ => ⟨S3232, .i32⟩
  | .hbm, ⟨73, _⟩ => ⟨S3232x1, .i32⟩
  | .hbm, ⟨74, _⟩ => ⟨S1, .i32⟩
  | .hbm, ⟨75, _⟩ => ⟨S_, .i32⟩
  | .hbm, ⟨76, _⟩ => ⟨S3232x1, .i32⟩
  | .hbm, ⟨77, _⟩ => ⟨S3232x1, .i1⟩
  | .hbm, ⟨78, _⟩ => ⟨S1x1, .i32⟩
  | .hbm, ⟨79, _⟩ => ⟨S3232x1, .i32⟩
  | .hbm, ⟨80, _⟩ => ⟨S3232x1, .i1⟩
  | .hbm, ⟨81, _⟩ => ⟨S3232x1, .i1⟩
  | .hbm, ⟨82, _⟩ => ⟨S_, .i1⟩
  | .hbm, ⟨83, _⟩ => ⟨S3232, .i1⟩
  | .hbm, ⟨84, _⟩ => ⟨S3232x768, .f32⟩
  | .hbm, ⟨85, _⟩ => ⟨S3232x768, .i1⟩
  | .hbm, ⟨86, _⟩ => ⟨S_, .f32⟩
  | .hbm, ⟨87, _⟩ => ⟨S3232x768, .f32⟩
  | .hbm, ⟨88, _⟩ => ⟨S3232x768, .f32⟩
  | .hbm, ⟨89, _⟩ => ⟨S1x3232x768, .f32⟩
  | .hbm, ⟨90, _⟩ => ⟨S8x3232x768, .f32⟩
  | .hbm, ⟨91, _⟩ => ⟨S8x3232x768, .f32⟩
  | .hbm, ⟨92, _⟩ => ⟨S1x3232x768, .f32⟩
  | .hbm, ⟨93, _⟩ => ⟨S8x3232x768, .f32⟩
  | .hbm, ⟨94, _⟩ => ⟨S8x3232x768, .f32⟩
  | .hbm, ⟨95, _⟩ => ⟨S_, .f32⟩
  | .hbm, ⟨96, _⟩ => ⟨S8x3232, .f32⟩
  | .hbm, ⟨97, _⟩ => ⟨S8x3232x1, .f32⟩
  | .hbm, ⟨98, _⟩ => ⟨S_, .f32⟩
  | .hbm, ⟨99, _⟩ => ⟨S8x3232x1, .f32⟩
  | .hbm, ⟨100, _⟩ => ⟨S8x3232x1, .f32⟩
  | .hbm, ⟨101, _⟩ => ⟨S8x3232x768, .f32⟩
  | .hbm, ⟨102, _⟩ => ⟨S8x3232x768, .f32⟩
  | .hbm, ⟨103, _⟩ => ⟨S8x3232x768, .f32⟩
  | .hbm, ⟨104, _⟩ => ⟨S_, .f32⟩
  | .hbm, ⟨105, _⟩ => ⟨S8x3232, .f32⟩
  | .hbm, ⟨106, _⟩ => ⟨S8x3232x1, .f32⟩
  | .hbm, ⟨107, _⟩ => ⟨S_, .f32⟩
  | .hbm, ⟨108, _⟩ => ⟨S8x3232x1, .f32⟩
  | .hbm, ⟨109, _⟩ => ⟨S8x3232x1, .f32⟩
  | .hbm, ⟨110, _⟩ => ⟨S8x3232x768, .f32⟩
  | .hbm, ⟨111, _⟩ => ⟨S8x3232x768, .f32⟩
  | .hbm, ⟨112, _⟩ => ⟨S_, .f32⟩
  | .hbm, ⟨113, _⟩ => ⟨S8x3232x1, .f32⟩
  | .hbm, ⟨114, _⟩ => ⟨S8x3232x1, .f32⟩
  | .hbm, ⟨115, _⟩ => ⟨S8x3232x1, .f32⟩
  | .hbm, ⟨116, _⟩ => ⟨S8x3232x768, .f32⟩
  | .hbm, ⟨117, _⟩ => ⟨S8x3232x768, .f32⟩
  | .hbm, ⟨118, _⟩ => ⟨S1x1x768, .f32⟩
  | .hbm, ⟨119, _⟩ => ⟨S8x3232x768, .f32⟩
  | .hbm, ⟨120, _⟩ => ⟨S8x3232x768, .f32⟩
  | .hbm, ⟨121, _⟩ => ⟨S1x1x768, .f32⟩
  | .hbm, ⟨122, _⟩ => ⟨S8x3232x768, .f32⟩
  | .hbm, ⟨123, _⟩ => ⟨S8x3232x768, .f32⟩
  | .hbm, ⟨124, _⟩ => ⟨S_, .i1⟩
  | .hbm, ⟨125, _⟩ => ⟨S8x3232, .i1⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_c_0 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_c_2 : Ref sig .tc := ⟨.hbm, 39, rfl⟩
abbrev main_v20 : Ref sig .tc := ⟨.hbm, 40, rfl⟩
abbrev main_v21 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v22 : Ref sig .tc := ⟨.hbm, 64, rfl⟩
abbrev main_v23 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_cst : Ref sig .tc := ⟨.hbm, 95, rfl⟩
abbrev main_v31 : Ref sig .tc := ⟨.hbm, 96, rfl⟩
abbrev main_v32 : Ref sig .tc := ⟨.hbm, 97, rfl⟩
abbrev main_cst_3 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_cst_4 : Ref sig .tc := ⟨.hbm, 104, rfl⟩
abbrev main_v38 : Ref sig .tc := ⟨.hbm, 105, rfl⟩
abbrev main_v39 : Ref sig .tc := ⟨.hbm, 106, rfl⟩
abbrev main_cst_5 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_cst_6 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_c_7 : Ref sig .tc := ⟨.hbm, 124, rfl⟩
abbrev main_v55 : Ref sig .tc := ⟨.hbm, 125, rfl⟩

abbrev nD : Nat := 1
abbrev τ : Topo := Topo.v7x

variable {F : FTy → Type} [FloatOps F]
-- ==== Proof.Prog.lean ====
module

public import proofs.«01_k».proof.Proof.Gen.Kernel.Points
public import proofs.«01_k».proof.Proof.Gen.Kernel
public import Idealize.ShloMosaic.Lib.Pipeline.Regions
public import Idealize.ShloMosaic.Lib.Tactic

/-! # The body at a point, written once

The printed body branches on the point and has one copy, wait and multiply per branch. Here the same
statements are written once over the tile number `k`: which segment it belongs to, where its rows
start, how many there are. `Points.lean` shows that the printed body at point `k` is `step k`. -/

@[expose] public section

noncomputable section

namespace Cert.Kernel.Hand

open Idealize.ShloMosaic Idealize.ShloMosaic.TcCoe Idealize.ShloMosaic.Tactic
open Idealize.SL Idealize.SL.Sem Facts Facts₀

variable {F : FTy → Type} [FloatOps F]

/-! ## The fourteen tiles -/

/-- The segment tile `k` reads. -/
def seg (k : ℕ) : Fin 4 := if k < 4 then 0 else if k < 12 then 1 else if k < 13 then 2 else 3
/-- The first row of tile `k` within its segment. -/
def lst (k : ℕ) : ℕ := if k < 4 then 256 * k else if k < 12 then 256 * (k - 4) else 0
/-- The first row of tile `k` within the whole sequence. -/
def gst (k : ℕ) : ℕ := if k < 13 then 256 * k else 3200
/-- The number of rows of tile `k`. -/
def nv (k : ℕ) : ℕ := if k < 12 then 256 else if k < 13 then 128 else 32
/-- The length of segment `s`. -/
def Lof (s : Fin 4) : ℕ := if s.val = 0 then 1024 else if s.val = 1 then 2048 else if s.val = 2 then 128 else 32
/-- The slot tile `k` uses of each double buffer. -/
def par (k : ℕ) : Fin 2 := ⟨k % 2, Nat.mod_lt _ (by decide)⟩

theorem nv_le (k : ℕ) : nv k ≤ 256 := by unfold nv; split_ifs <;> omega
theorem nv_pos (k : ℕ) : 0 < nv k := by unfold nv; split_ifs <;> omega
theorem lst_le (k : ℕ) : lst k + nv k ≤ Lof (seg k) := by
  unfold lst nv seg; split_ifs <;> simp [Lof] <;> omega
theorem gst_le (k : ℕ) : gst k + nv k ≤ 3232 := by unfold gst nv; split_ifs <;> omega

/-! ## The buffers -/

/-- The rows of segment `s` of the embeddings, one row block per batch entry. -/
abbrev Sseg (s : Fin 4) : Shape := ⟨3, ![8, Lof s, 1024]⟩
/-- The input of segment `s`. -/
def xin (s : Fin 4) : Memref sig .tc .hbm (Sseg s) .f32 :=
  match s with
  | ⟨0, _⟩ => Memref.whole main_arg0
  | ⟨1, _⟩ => Memref.whole main_arg1
  | ⟨2, _⟩ => Memref.whole main_arg2
  | ⟨3, _⟩ => Memref.whole main_arg3
/-- The weights of segment `s`. -/
def win (s : Fin 4) : Memref sig .tc .hbm S1024x768 .f32 :=
  match s with
  | ⟨0, _⟩ => Memref.whole main_arg4
  | ⟨1, _⟩ => Memref.whole main_arg6
  | ⟨2, _⟩ => Memref.whole main_arg8
  | ⟨3, _⟩ => Memref.whole main_arg10
/-- The position table. -/
abbrev pin : Memref sig .tc .hbm S4096x768 .f32 := Memref.whole main_arg13
/-- The result. -/
abbrev oout : Memref sig .tc .hbm S8x3232x768 .f32 := Memref.whole main_v20
abbrev xbuf : Memref sig .tc .vmem S2x8x256x1024 .f32 := Memref.whole cc0_scratch0
abbrev obuf : Memref sig .tc .vmem S2x8x256x768 .f32 := Memref.whole cc0_scratch1
abbrev pbuf : Memref sig .tc .vmem S2x256x768 .f32 := Memref.whole cc0_scratch2
abbrev wbuf : Memref sig .tc .vmem S4x1024x768 .f32 := Memref.whole cc0_scratch3
abbrev wcur : Memref sig .tc .vmem S1024x768 .bf16 := Memref.whole cc0_scratch4
abbrev bcur : Memref sig .tc .vmem S1x768 .f32 := Memref.whole cc0_scratch5
abbrev bstg : Memref sig .tc .vmem S4x1x768 .f32 := Memref.whole cc0_stg0_0
abbrev gstg : Memref sig .tc .vmem S1x768 .f32 := Memref.whole cc0_stg1_0
abbrev tstg : Memref sig .tc .vmem S1x768 .f32 := Memref.whole cc0_stg2_0

/-- The semaphore of slot `p` of the row buffer, of the position buffer, of the result buffer, and of
    the weights of segment `s`. -/
def xsem (p : Fin 2) : DmaSem sig := ⟨3 + p.val, by have := p.isLt; change 3 + p.val < 13; omega⟩
def psem (p : Fin 2) : DmaSem sig := ⟨5 + p.val, by have := p.isLt; change 5 + p.val < 13; omega⟩
def osem (p : Fin 2) : DmaSem sig := ⟨7 + p.val, by have := p.isLt; change 7 + p.val < 13; omega⟩
def wsem (s : Fin 4) : DmaSem sig := ⟨9 + s.val, by have := s.isLt; change 9 + s.val < 13; omega⟩

/-! ## The views a copy moves -/

abbrev Sx (n : ℕ) : Shape := ⟨3, ![4, n, 1024]⟩
abbrev Sx1 (n : ℕ) : Shape := ⟨4, ![1, 4, n, 1024]⟩
abbrev So (n : ℕ) : Shape := ⟨3, ![4, n, 768]⟩
abbrev So1 (n : ℕ) : Shape := ⟨4, ![1, 4, n, 768]⟩
abbrev Sp (n : ℕ) : Shape := ⟨2, ![n, 768]⟩
abbrev Sp1 (n : ℕ) : Shape := ⟨3, ![1, n, 768]⟩

theorem sqx (n : ℕ) : (Sx1 n).Squeezes (Sx n) := by
  simp [Shape.Squeezes, Shape.dropsOnes, Sx1, Sx]
theorem sqo (n : ℕ) : (So1 n).Squeezes (So n) := by
  simp [Shape.Squeezes, Shape.dropsOnes, So1, So]
theorem sqp (n : ℕ) : (Sp1 n).Squeezes (Sp n) := by
  simp [Shape.Squeezes, Shape.dropsOnes, Sp1, Sp]

theorem inb_xsrc (k : ℕ) (h : Fin 2) :
    ∀ a, (![4 * h.val, lst k, 0] : Fin 3 → ℕ) a + (Sx (nv k)).size a ≤ (Sseg (seg k)).size a := by
  have := lst_le k; have := h.isLt
  intro a; fin_cases a <;> simp <;> omega
theorem inb_xdst (k : ℕ) (p h : Fin 2) :
    ∀ a, (![p.val, 4 * h.val, 0, 0] : Fin 4 → ℕ) a + (Sx1 (nv k)).size a ≤ S2x8x256x1024.size a := by
  have := nv_le k; have := h.isLt; have := p.isLt
  intro a; fin_cases a <;> simp [S2x8x256x1024] <;> omega
theorem inb_psrc (k : ℕ) :
    ∀ a, (![gst k, 0] : Fin 2 → ℕ) a + (Sp (nv k)).size a ≤ S4096x768.size a := by
  have := gst_le k
  intro a; fin_cases a <;> simp [S4096x768] <;> omega
theorem inb_pdst (k : ℕ) (p : Fin 2) :
    ∀ a, (![p.val, 0, 0] : Fin 3 → ℕ) a + (Sp1 (nv k)).size a ≤ S2x256x768.size a := by
  have := nv_le k; have := p.isLt
  intro a; fin_cases a <;> simp [S2x256x768] <;> omega
theorem inb_osrc (k : ℕ) (p h : Fin 2) :
    ∀ a, (![p.val, 4 * h.val, 0, 0] : Fin 4 → ℕ) a + (So1 (nv k)).size a ≤ S2x8x256x768.size a := by
  have := nv_le k; have := h.isLt; have := p.isLt
  intro a; fin_cases a <;> simp [S2x8x256x768] <;> omega
theorem inb_odst (k : ℕ) (h : Fin 2) :
    ∀ a, (![4 * h.val, gst k, 0] : Fin 3 → ℕ) a + (So (nv k)).size a ≤ S8x3232x768.size a := by
  have := gst_le k; have := h.isLt
  intro a; fin_cases a <;> simp [S8x3232x768] <;> omega
theorem inb_wdst (s : Fin 4) :
    ∀ a, (![s.val, 0, 0] : Fin 3 → ℕ) a + S1x1024x768.size a ≤ S4x1024x768.size a := by
  have := s.isLt
  intro a; fin_cases a <;> simp [S4x1024x768, S1x1024x768] <;> omega
theorem inb_bias (s : Fin 4) :
    ∀ a, (![s.val, 0, 0] : Fin 3 → ℕ) a + S1x1x768.size a ≤ S4x1x768.size a := by
  have := s.isLt
  intro a; fin_cases a <;> simp [S4x1x768, S1x1x768] <;> omega
theorem inb_xrow (p : Fin 2) (i : Fin 8) :
    ∀ a, (![p.val, i.val, 0, 0] : Fin 4 → ℕ) a + S1x1x256x1024.size a ≤ S2x8x256x1024.size a := by
  have := i.isLt; have := p.isLt
  intro a; fin_cases a <;> simp [S2x8x256x1024, S1x1x256x1024] <;> omega
theorem inb_orow (p : Fin 2) (i : Fin 8) :
    ∀ a, (![p.val, i.val, 0, 0] : Fin 4 → ℕ) a + S1x1x256x768.size a ≤ S2x8x256x768.size a := by
  have := i.isLt; have := p.isLt
  intro a; fin_cases a <;> simp [S2x8x256x768, S1x1x256x768] <;> omega
theorem inb_prow (p : Fin 2) :
    ∀ a, (![p.val, 0, 0] : Fin 3 → ℕ) a + S1x256x768.size a ≤ S2x256x768.size a := by
  have := p.isLt
  intro a; fin_cases a <;> simp [S2x256x768, S1x256x768] <;> omega

/-- Half `h` of the rows of tile `k`, in the input and in slot `p` of the row buffer. -/
abbrev xsrc (k : ℕ) (h : Fin 2) : Memref sig .tc .hbm (Sx (nv k)) .f32 :=
  (xin (seg k)).slice (Rect.unit (s := Sseg (seg k)) ![4 * h.val, lst k, 0] (Sx (nv k)).size (inb_xsrc k h)) (fun _ => rfl)
abbrev xdst (k : ℕ) (p h : Fin 2) : Memref sig .tc .vmem (Sx (nv k)) .f32 :=
  (xbuf.slice (Rect.unit (s := S2x8x256x1024) ![p.val, 4 * h.val, 0, 0] (Sx1 (nv k)).size (inb_xdst k p h)) (fun _ => rfl)).squeeze (Sx (nv k)) (sqx _)
/-- The position rows of tile `k`, in the table and in slot `p` of the position buffer. -/
abbrev psrc (k : ℕ) : Memref sig .tc .hbm (Sp (nv k)) .f32 :=
  pin.slice (Rect.unit (s := S4096x768) ![gst k, 0] (Sp (nv k)).size (inb_psrc k)) (fun _ => rfl)
abbrev pdst (k : ℕ) (p : Fin 2) : Memref sig .tc .vmem (Sp (nv k)) .f32 :=
  (pbuf.slice (Rect.unit (s := S2x256x768) ![p.val, 0, 0] (Sp1 (nv k)).size (inb_pdst k p)) (fun _ => rfl)).squeeze (Sp (nv k)) (sqp _)
/-- Half `h` of the result rows of tile `k`, in slot `p` of the result buffer and in the result. -/
abbrev osrc (k : ℕ) (p h : Fin 2) : Memref sig .tc .vmem (So (nv k)) .f32 :=
  (obuf.slice (Rect.unit (s := S2x8x256x768) ![p.val, 4 * h.val, 0, 0] (So1 (nv k)).size (inb_osrc k p h)) (fun _ => rfl)).squeeze (So (nv k)) (sqo _)
abbrev odst (k : ℕ) (h : Fin 2) : Memref sig .tc .hbm (So (nv k)) .f32 :=
  oout.slice (Rect.unit (s := S8x3232x768) ![4 * h.val, gst k, 0] (So (nv k)).size (inb_odst k h)) (fun _ => rfl)
/-- The weights of segment `s` in the staging buffer. -/
abbrev wdst (s : Fin 4) : Memref sig .tc .vmem S1024x768 .f32 :=
  (wbuf.slice (Rect.unit (s := S4x1024x768) ![s.val, 0, 0] S1x1024x768.size (inb_wdst s)) (fun _ => rfl)).squeeze S1024x768 squeezes_S1x1024x768_S1024x768

theorem win_whole (s : Fin 4) : (win s).IsWhole := by
  fin_cases s <;> exact Memref.isWhole_whole _

/-! ## The statements -/

/-- A program of the device's core. -/
abbrev P (F : FTy → Type) [FloatOps F] (α : Type) := Prog (TpuEff nD τ sig (Elt F) Λ₀ .tc) α

def xStart (k : ℕ) (h : Fin 2) : P F PUnit :=
  Prog.lift (.enqueueDma (xsrc k h) (.here (xdst k (par k) h)) (.dma (xsem (par k)))
    (View.wordExact_bits rfl) ((View.wordExact_bits rfl).reshape _ _) ⟨Or.inl rfl, trivial⟩)
def xWait (k : ℕ) (h : Fin 2) : P F PUnit :=
  Prog.lift (.waitDma2 (xsem (par k)) (xsrc k h) (xdst k (par k) h)
    (View.wordExact_bits rfl) ((View.wordExact_bits rfl).reshape _ _))
def pStart (k : ℕ) : P F PUnit :=
  Prog.lift (.enqueueDma (psrc k) (.here (pdst k (par k))) (.dma (psem (par k)))
    (View.wordExact_bits rfl) ((View.wordExact_bits rfl).reshape _ _) ⟨Or.inl rfl, trivial⟩)
def pWait (k : ℕ) : P F PUnit :=
  Prog.lift (.waitDma2 (psem (par k)) (psrc k) (pdst k (par k))
    (View.wordExact_bits rfl) ((View.wordExact_bits rfl).reshape _ _))
def oStart (k : ℕ) (h : Fin 2) : P F PUnit :=
  Prog.lift (.enqueueDma (osrc k (par k) h) (.here (odst k h)) (.dma (osem (par k)))
    ((View.wordExact_bits rfl).reshape _ _) (View.wordExact_bits rfl) ⟨Or.inl rfl, trivial⟩)
def oWait (k : ℕ) (h : Fin 2) : P F PUnit :=
  Prog.lift (.waitDma2 (osem (par k)) (osrc k (par k) h) (odst k h)
    ((View.wordExact_bits rfl).reshape _ _) (View.wordExact_bits rfl))
def wStart (s : Fin 4) : P F PUnit :=
  Prog.lift (.enqueueDma (win s) (.here (wdst s)) (.dma (wsem s))
    (win_whole s).wordExact ((View.wordExact_bits rfl).reshape _ _) ⟨Or.inl rfl, trivial⟩)
def wWait (s : Fin 4) : P F PUnit :=
  Prog.lift (.waitDma2 (wsem s) (win s) (wdst s)
    (win_whole s).wordExact ((View.wordExact_bits rfl).reshape _ _))

/-- Start the copies of tile `k`'s rows and positions. -/
def fetchStart (k : ℕ) : P F PUnit := do
  xStart k 0
  xStart k 1
  pStart k

/-- Take segment `s`'s weights in the narrow format, and its bias row, as the current ones. -/
def wLoad (s : Fin 4) : P F PUnit := do
  wWait s
  let v : Vec F S1x1024x768 .f32 ← Prog.lift (.load wbuf (Rect.unit (s := S4x1024x768) ![s.val, 0, 0] S1x1024x768.size (inb_wdst s)).toLoadRect (View.loadsAt_vmem h_S1x1024x768))
  let _d : Vec F S1024x768 .bf16 ← Prog.lift (.load wcur (Rect.unit (s := S1024x768) ![0, 0] S1024x768.size inb_S1024x768_S1024x768_0_0).toLoadRect (View.loadsAt_vmem h_S1024x768))
  Prog.lift (.store wcur (Rect.unit (s := S1024x768) ![0, 0] S1024x768.size inb_S1024x768_S1024x768_0_0) (shapeCast S1024x768 (truncf .bf16 (shapeCast S1024x768 v shapeCasts_S1x1024x768_S1024x768) bitsLt_bf16_f32) shapeCasts_S1024x768_S1024x768) Finset.univ (View.stores_vmem h_S1024x768 ((Memref.isWhole_whole _).storeExact_slice rfl _ packedbf16_S1024x768_S1024x768_0_0) (fun _ => rfl)) (.inl rfl))
  let b : Vec F S1x1x768 .f32 ← Prog.lift (.load bstg (Rect.unit (s := S4x1x768) ![s.val, 0, 0] S1x1x768.size (inb_bias s)).toLoadRect (View.loadsAt_vmem h_S1x1x768))
  let _e : Vec F S1x768 .f32 ← Prog.lift (.load bcur (Rect.unit (s := S1x768) ![0, 0] S1x768.size inb_S1x768_S1x768_0_0).toLoadRect (View.loadsAt_vmem h_S1x768))
  Prog.lift (.store bcur (Rect.unit (s := S1x768) ![0, 0] S1x768.size inb_S1x768_S1x768_0_0) (shapeCast S1x768 (shapeCast S1x768 b shapeCasts_S1x1x768_S1x768) shapeCasts_S1x768_S1x768) Finset.univ (View.stores_vmem_bits_univ h_S1x768 rfl) (.inl rfl))

/-- The rows of one batch entry: multiply by the weights, add bias and positions, and normalise each
    row. -/
def rows (add : FVec F S256x768 .f32) (g b : FVec F S1x768 .f32) (w : FVec F S1024x768 .bf16)
    (x : FVec F S1x1x256x1024 .f32) : FVec F S1x1x256x768 .f32 :=
  let y := addf (matmul dot_S256x1024_S1024x768_S256x768_1_0_0_1_n_n none
    (truncf .bf16 (shapeCast S256x1024 x shapeCasts_S1x1x256x1024_S256x1024) bitsLt_bf16_f32) w
    (constant S256x768 .f32 0x00000000#32)) add
  let mean := divf (shapeCast S256x1 (multiReduction .add [1] S256 y 0x00000000#32 reduces_S256x768_S256 (.inl rfl) rfl) shapeCasts_S256_S256x1)
    (broadcast S256x1 (Scalar.ofBits .f32 0x44400000#32))
  let yc := subf y (broadcastTo S256x768 mean broadcasts_S256x1_S256x768)
  let var := divf (shapeCast S256x1 (multiReduction .add [1] S256 (mulf yc yc) 0x00000000#32 reduces_S256x768_S256 (.inl rfl) rfl) shapeCasts_S256_S256x1)
    (broadcast S256x1 (Scalar.ofBits .f32 0x44400000#32))
  let inv := rsqrt (addf var (broadcast S256x1 (Scalar.ofBits .f32 0x2B8CBCCC#32)))
  shapeCast S1x1x256x768 (addf (mulf (mulf yc (broadcastTo S256x768 inv broadcasts_S256x1_S256x768))
    (broadcastTo S256x768 g broadcasts_S1x768_S256x768)) (broadcastTo S256x768 b broadcasts_S1x768_S256x768))
    shapeCasts_S256x768_S1x1x256x768

/-- One batch entry of the tile in slot `p`. -/
def entry (p : Fin 2) (add : FVec F S256x768 .f32) (g b : FVec F S1x768 .f32)
    (w : FVec F S1024x768 .bf16) (i : Fin 8) : P F PUnit := do
  let x : Vec F S1x1x256x1024 .f32 ← Prog.lift (.load xbuf (Rect.unit (s := S2x8x256x1024) ![p.val, i.val, 0, 0] S1x1x256x1024.size (inb_xrow p i)).toLoadRect (View.loadsAt_vmem h_S1x1x256x1024))
  let _d : Vec F S1x1x256x768 .f32 ← Prog.lift (.load obuf (Rect.unit (s := S2x8x256x768) ![p.val, i.val, 0, 0] S1x1x256x768.size (inb_orow p i)).toLoadRect (View.loadsAt_vmem h_S1x1x256x768))
  Prog.lift (.store obuf (Rect.unit (s := S2x8x256x768) ![p.val, i.val, 0, 0] S1x1x256x768.size (inb_orow p i)) (rows add g b w x) Finset.univ (View.stores_vmem_bits_univ h_S1x1x256x768 rfl) (.inl rfl))

/-- The bias row and the position rows, added. -/
def addRow (b : FVec F S1x768 .f32) (q : FVec F S1x256x768 .f32) : FVec F S256x768 .f32 :=
  addf (broadcastTo S256x768 b broadcasts_S1x768_S256x768) (shapeCast S256x768 q shapeCasts_S1x256x768_S256x768)

/-- The tile in slot `p`: its eight batch entries. -/
def comp (p : Fin 2) : P F PUnit := do
  let b : Vec F S1x768 .f32 ← Prog.lift (.load bcur (Rect.unit (s := S1x768) ![0, 0] S1x768.size inb_S1x768_S1x768_0_0).toLoadRect (View.loadsAt_vmem h_S1x768))
  let q : Vec F S1x256x768 .f32 ← Prog.lift (.load pbuf (Rect.unit (s := S2x256x768) ![p.val, 0, 0] S1x256x768.size (inb_prow p)).toLoadRect (View.loadsAt_vmem h_S1x256x768))
  let g : Vec F S1x768 .f32 ← Prog.lift (.load gstg (Rect.unit (s := S1x768) ![0, 0] S1x768.size inb_S1x768_S1x768_0_0).toLoadRect (View.loadsAt_vmem h_S1x768))
  let t : Vec F S1x768 .f32 ← Prog.lift (.load tstg (Rect.unit (s := S1x768) ![0, 0] S1x768.size inb_S1x768_S1x768_0_0).toLoadRect (View.loadsAt_vmem h_S1x768))
  let w : Vec F S1024x768 .bf16 ← Prog.lift (.load wcur (Rect.unit (s := S1024x768) ![0, 0] S1024x768.size inb_S1024x768_S1024x768_0_0).toLoadRect (View.loadsAt_vmem h_S1024x768))
  let a := addRow b q
  let g' := shapeCast S1x768 g shapeCasts_S1x768_S1x768
  let t' := shapeCast S1x768 t shapeCasts_S1x768_S1x768
  entry p a g' t' w 0
  entry p a g' t' w 1
  entry p a g' t' w 2
  entry p a g' t' w 3
  entry p a g' t' w 4
  entry p a g' t' w 5
  entry p a g' t' w 6
  entry p a g' t' w 7

/-- Start every weight copy and the copies of tile 0. -/
def prologue : P F PUnit := do
  wStart 0
  wStart 1
  wStart 2
  wStart 3
  fetchStart 0

/-- Is `k` the first tile of its segment? -/
def first (k : ℕ) : Bool := k == 0 || k == 4 || k == 12 || k == 13

/-- Wait for both halves of tile `k`'s result. -/
def oWaits (k : ℕ) : P F PUnit := do
  oWait k 0
  oWait k 1

/-- Run `p` when `b` holds. -/
def gate (b : Bool) (p : P F PUnit) : P F PUnit := bif b then p else pure ⟨⟩

/-- The body at point `k`. -/
def step (k : ℕ) : P F PUnit := do
  gate (k == 0) prologue
  gate (decide (k < 13)) (fetchStart (k + 1))
  gate (first k) (wLoad (seg k))
  xWait k 0
  xWait k 1
  pWait k
  gate (decide (2 ≤ k)) (oWaits (k - 2))
  comp (par k)
  oStart k 0
  oStart k 1
  gate (k == 13) (do oWaits 12; oWaits 13)

end Cert.Kernel.Hand

end
-- ==== Proof.Contents.lean ====
module

public import proofs.«01_k».proof.Proof.Prog
public import Idealize.ShloMosaic.Lib.ValueLayout
public import Idealize.ShloMosaic.Lib.Batch

/-! # What each buffer holds

`X k`, `PS k`, `OB k` are the contents of the slots of the row, position and result buffers once tile
`k` has landed there or has been computed; `WB` and `WC s`, `BC s` those of the weight buffers; `OUT`
is the whole result. All are functions of the buffers `v` the launch starts from. A short tile leaves
the rows behind it as the tile before it in the same slot left them. -/

@[expose] public section

noncomputable section

namespace Cert.Kernel.Hand

open Idealize.ShloMosaic Idealize.ShloMosaic.TcCoe Idealize.ShloMosaic.ValueIdx
open Idealize.SL Idealize.SL.Sem Facts Facts₀

variable {F : FTy → Type} [FloatOps F]

/-! ## A write through a view, given as contents -/

/-- A write through a view over `f` holds `g` on a set, when `g` reads as what is written through the
    view and `f` is `g` on the rest of the set. -/
theorem write_eq_on {sp : Space} {s : Shape} {e : EltTy} {κ : Kind} {Val : EltTy → Type}
    (w : View sig κ sp s e) (f g : w.ty.Contents Val)
    (u : s.Idx → Val e) (S : Finset w.ty.Idx) (hin : w.read Val g = u)
    (hout : ∀ i ∈ S, i ∉ w.set → f i = g i) : ∀ i ∈ S, w.write Val f u Finset.univ i = g i := by
  intro i hi
  by_cases h : i ∈ w.set
  · obtain ⟨x, -, rfl⟩ := Finset.mem_map.1 h
    rw [View.write_emb_of_mem _ _ (Finset.mem_univ x), ← hin, View.read_apply, cast_cast, cast_eq]
  · rw [View.write_of_not_mem _ _ _ (by rwa [View.setOn_univ]), hout i hi h]

/-! ## The contents -/

section
variable {c : Dev nD} (v : (b : Ref sig .tc) → Buf (Elt F) ((c : Thread nD τ).loc b))

theorem Lof_pos (s : Fin 4) : 0 < Lof s := by unfold Lof; split_ifs <;> decide

/-- The rows of segment `s`. -/
def xA (s : Fin 4) : (Sseg s).Idx → Elt F .f32 := (xin s).view.read (Elt F) (v (xin s).view.ref)
/-- Entry `j` of row `l` of batch entry `b` of segment `s`. -/
def xAt (s : Fin 4) (b : Fin 8) (l : ℕ) (j : Fin 1024) : Elt F .f32 :=
  xA v s (ix3 b ⟨l % Lof s, Nat.mod_lt _ (Lof_pos s)⟩ j)
/-- The weights of segment `s`. -/
def wA (s : Fin 4) : S1024x768.Idx → Elt F .f32 := (win s).view.read (Elt F) (v (win s).view.ref)
/-- The position table, at any row number. -/
def pAt (l : ℕ) (j : Fin 768) : Elt F .f32 :=
  (v main_arg13 : S4096x768.Idx → Elt F .f32) (ix2 ⟨l % 4096, Nat.mod_lt _ (by decide)⟩ j)
def bA : S4x1x768.Idx → Elt F .f32 := v main_v17
def gA : S1x768.Idx → Elt F .f32 := v main_v18
def tA : S1x768.Idx → Elt F .f32 := v main_v19

/-- The tile whose row is in row `r` of the slot while tile `k` is there. -/
def tk (k r : ℕ) : ℕ := if r < nv k then k else k - 2

def X (k : ℕ) : S2x8x256x1024.Idx → Elt F .f32 := fun i =>
  xAt v (seg (tk k (i 2).val)) (i 1) (lst (tk k (i 2).val) + (i 2).val) (i 3)
def PS (k : ℕ) : S2x256x768.Idx → Elt F .f32 := fun i =>
  pAt v (gst (tk k (i 1).val) + (i 1).val) (i 2)
def WB : S4x1024x768.Idx → Elt F .f32 := fun i => wA v (i 0) (ix2 (i 1) (i 2))

/-- The segment's weights in the narrow format. -/
def WC (s : Fin 4) : S1024x768.Idx → Elt F .bf16 :=
  shapeCast S1024x768 (truncf .bf16 (shapeCast S1024x768
    ((wbuf.access (Rect.unit (s := S4x1024x768) ![s.val, 0, 0] S1x1024x768.size (inb_wdst s))).read (Elt F) (WB v))
    shapeCasts_S1x1024x768_S1024x768) bitsLt_bf16_f32) shapeCasts_S1024x768_S1024x768
/-- The segment's bias row. -/
def BC (s : Fin 4) : S1x768.Idx → Elt F .f32 :=
  shapeCast S1x768 (shapeCast S1x768
    ((bstg.access (Rect.unit (s := S4x1x768) ![s.val, 0, 0] S1x1x768.size (inb_bias s))).read (Elt F) (bA v))
    shapeCasts_S1x1x768_S1x768) shapeCasts_S1x768_S1x768

/-- The block of batch entry `i` of tile `k`, as loaded. -/
def xrow (k : ℕ) (i : Fin 8) : FVec F S1x1x256x1024 .f32 :=
  (xbuf.access (Rect.unit (s := S2x8x256x1024) ![(par k).val, i.val, 0, 0] S1x1x256x1024.size (inb_xrow (par k) i))).read (Elt F) (X v k)
/-- The positions of tile `k`, as loaded. -/
def prow (k : ℕ) : FVec F S1x256x768 .f32 :=
  (pbuf.access (Rect.unit (s := S2x256x768) ![(par k).val, 0, 0] S1x256x768.size (inb_prow (par k)))).read (Elt F) (PS v k)
/-- The result rows of batch entry `i` of tile `k`. -/
def orow (k : ℕ) (i : Fin 8) : FVec F S1x1x256x768 .f32 :=
  rows (addRow (BC v (seg k)) (prow v k)) (shapeCast S1x768 (gA v) shapeCasts_S1x768_S1x768)
    (shapeCast S1x768 (tA v) shapeCasts_S1x768_S1x768) (WC v (seg k)) (xrow v k i)
def OB (k : ℕ) : S2x8x256x768.Idx → Elt F .f32 := fun i => orow v k (i 1) (ix4 0 0 (i 2) (i 3))

/-- The tile a row of the result belongs to. -/
def tileOf (l : ℕ) : ℕ := if l < 3072 then l / 256 else if l < 3200 then 12 else 13
theorem tileOf_row (l : ℕ) (h : l < 3232) : l - gst (tileOf l) < 256 := by
  unfold tileOf gst; split_ifs <;> omega
def OUT : S8x3232x768.Idx → Elt F .f32 := fun i =>
  orow v (tileOf (i 1).val) (i 0) (ix4 0 0 ⟨(i 1).val - gst (tileOf (i 1).val), tileOf_row _ (i 1).isLt⟩ (i 2))

end

/-! ## Where the views land -/

theorem xdst_emb (k : ℕ) (p h : Fin 2) (x : (Sx (nv k)).Idx) (a : Fin 4) :
    ((xdst k p h).view.emb x a : ℕ) = (![p.val, 4 * h.val + (x 0).val, (x 1).val, (x 2).val] : Fin 4 → ℕ) a := by
  change (((Rect.unit (s := S2x8x256x1024) ![p.val, 4 * h.val, 0, 0] (Sx1 (nv k)).size (inb_xdst k p h)).emb (Shape.reshapeEquiv _ x)) a : ℕ) = _
  rw [Rect.emb_apply, Shape.reshapeEquiv_cons_one]
  fin_cases a <;> simp [Rect.unit] <;> rfl

theorem pdst_emb (k : ℕ) (p : Fin 2) (x : (Sp (nv k)).Idx) (a : Fin 3) :
    ((pdst k p).view.emb x a : ℕ) = (![p.val, (x 0).val, (x 1).val] : Fin 3 → ℕ) a := by
  change (((Rect.unit (s := S2x256x768) ![p.val, 0, 0] (Sp1 (nv k)).size (inb_pdst k p)).emb (Shape.reshapeEquiv _ x)) a : ℕ) = _
  rw [Rect.emb_apply, Shape.reshapeEquiv_cons_one]
  fin_cases a <;> simp [Rect.unit] <;> rfl

theorem wdst_emb (s : Fin 4) (x : S1024x768.Idx) (a : Fin 3) :
    ((wdst s).view.emb x a : ℕ) = (![s.val, (x 0).val, (x 1).val] : Fin 3 → ℕ) a := by
  change (((Rect.unit (s := S4x1024x768) ![s.val, 0, 0] S1x1024x768.size (inb_wdst s)).emb (Shape.reshapeEquiv _ x)) a : ℕ) = _
  rw [Rect.emb_apply, Shape.reshapeEquiv_cons_one]
  fin_cases a <;> simp [Rect.unit] <;> rfl

theorem osrc_emb (k : ℕ) (p h : Fin 2) (x : (So (nv k)).Idx) (a : Fin 4) :
    ((osrc k p h).view.emb x a : ℕ) = (![p.val, 4 * h.val + (x 0).val, (x 1).val, (x 2).val] : Fin 4 → ℕ) a := by
  change (((Rect.unit (s := S2x8x256x768) ![p.val, 4 * h.val, 0, 0] (So1 (nv k)).size (inb_osrc k p h)).emb (Shape.reshapeEquiv _ x)) a : ℕ) = _
  rw [Rect.emb_apply, Shape.reshapeEquiv_cons_one]
  fin_cases a <;> simp [Rect.unit] <;> rfl

theorem odst_emb (k : ℕ) (h : Fin 2) (x : (So (nv k)).Idx) (a : Fin 3) :
    ((odst k h).view.emb x a : ℕ) = (![4 * h.val + (x 0).val, gst k + (x 1).val, (x 2).val] : Fin 3 → ℕ) a := by
  change (((Rect.unit (s := S8x3232x768) ![4 * h.val, gst k, 0] (So (nv k)).size (inb_odst k h)).emb x) a : ℕ) = _
  rw [Rect.emb_apply]
  fin_cases a <;> simp [Rect.unit]

/-! ## The sets -/

/-- Half `h` of slot `p` of the row buffer. -/
def xhalf (p h : Fin 2) : Finset S2x8x256x1024.Idx :=
  Finset.univ.filter fun i => (i 0).val = p.val ∧ (i 1).val / 4 = h.val
/-- Slot `p` of the row buffer. -/
def xslab (p : Fin 2) : Finset S2x8x256x1024.Idx := Finset.univ.filter fun i => (i 0).val = p.val
def pslab (p : Fin 2) : Finset S2x256x768.Idx := Finset.univ.filter fun i => (i 0).val = p.val
def wslab (s : Fin 4) : Finset S4x1024x768.Idx := Finset.univ.filter fun i => (i 0).val = s.val
def oslab (p : Fin 2) : Finset S2x8x256x768.Idx := Finset.univ.filter fun i => (i 0).val = p.val
/-- The rows of the result before row `l`, and from row `l` on. -/
def odone (l : ℕ) : Finset S8x3232x768.Idx := Finset.univ.filter fun i => (i 1).val < l
def otodo (l : ℕ) : Finset S8x3232x768.Idx := Finset.univ.filter fun i => l ≤ (i 1).val

theorem mem_xdst (k : ℕ) (p h : Fin 2) (i : S2x8x256x1024.Idx) :
    i ∈ (xdst k p h).view.set ↔ (i 0).val = p.val ∧ (i 1).val / 4 = h.val ∧ (i 2).val < nv k := by
  have h1 : (i 1).val < 8 := (i 1).isLt
  have h3 : (i 3).val < 1024 := (i 3).isLt
  rw [show (xdst k p h).view.set = (Rect.unit (s := S2x8x256x1024) ![p.val, 4 * h.val, 0, 0] (Sx1 (nv k)).size (inb_xdst k p h)).set from
    (View.set_reshape _ _).trans (View.set_slice_whole _ _)]
  rw [Rect.mem_set_unit, Fin.forall_fin_succ, Fin.forall_fin_succ, Fin.forall_fin_succ, Fin.forall_fin_succ]
  simp
  omega

theorem mem_pdst (k : ℕ) (p : Fin 2) (i : S2x256x768.Idx) :
    i ∈ (pdst k p).view.set ↔ (i 0).val = p.val ∧ (i 1).val < nv k := by
  have h3 : (i 2).val < 768 := (i 2).isLt
  rw [show (pdst k p).view.set = (Rect.unit (s := S2x256x768) ![p.val, 0, 0] (Sp1 (nv k)).size (inb_pdst k p)).set from
    (View.set_reshape _ _).trans (View.set_slice_whole _ _)]
  rw [Rect.mem_set_unit, Fin.forall_fin_succ, Fin.forall_fin_succ, Fin.forall_fin_succ]
  simp
  omega

theorem mem_wdst (s : Fin 4) (i : S4x1024x768.Idx) : i ∈ (wdst s).view.set ↔ (i 0).val = s.val := by
  have h2 : (i 1).val < 1024 := (i 1).isLt
  have h3 : (i 2).val < 768 := (i 2).isLt
  rw [show (wdst s).view.set = (Rect.unit (s := S4x1024x768) ![s.val, 0, 0] S1x1024x768.size (inb_wdst s)).set from
    (View.set_reshape _ _).trans (View.set_slice_whole _ _)]
  rw [Rect.mem_set_unit, Fin.forall_fin_succ, Fin.forall_fin_succ, Fin.forall_fin_succ]
  simp
  omega

theorem mem_osrc (k : ℕ) (p h : Fin 2) (i : S2x8x256x768.Idx) :
    i ∈ (osrc k p h).view.set ↔ (i 0).val = p.val ∧ (i 1).val / 4 = h.val ∧ (i 2).val < nv k := by
  have h1 : (i 1).val < 8 := (i 1).isLt
  have h3 : (i 3).val < 768 := (i 3).isLt
  rw [show (osrc k p h).view.set = (Rect.unit (s := S2x8x256x768) ![p.val, 4 * h.val, 0, 0] (So1 (nv k)).size (inb_osrc k p h)).set from
    (View.set_reshape _ _).trans (View.set_slice_whole _ _)]
  rw [Rect.mem_set_unit, Fin.forall_fin_succ, Fin.forall_fin_succ, Fin.forall_fin_succ, Fin.forall_fin_succ]
  simp
  omega

theorem mem_odst (k : ℕ) (h : Fin 2) (i : S8x3232x768.Idx) :
    i ∈ (odst k h).view.set ↔ (i 0).val / 4 = h.val ∧ gst k ≤ (i 1).val ∧ (i 1).val < gst k + nv k := by
  have h1 : (i 0).val < 8 := (i 0).isLt
  have h3 : (i 2).val < 768 := (i 2).isLt
  rw [show (odst k h).view.set = (Rect.unit (s := S8x3232x768) ![4 * h.val, gst k, 0] (So (nv k)).size (inb_odst k h)).set from
    View.set_slice_whole _ _]
  rw [Rect.mem_set_unit, Fin.forall_fin_succ, Fin.forall_fin_succ, Fin.forall_fin_succ]
  simp
  omega

/-! ## What lands -/

section
variable {c : Dev nD} (v : (b : Ref sig .tc) → Buf (Elt F) ((c : Thread nD τ).loc b))

theorem tk_lt {k r : ℕ} (h : r < nv k) : tk k r = k := if_pos h
theorem tk_ge {k r : ℕ} (h : ¬ r < nv k) : tk k r = k - 2 := if_neg h
theorem nv_small {k : ℕ} (h : nv k < 256) : 12 ≤ k := by
  unfold nv at h; split_ifs at h <;> omega

theorem tk_tk {k r : ℕ} (hr : r < 256) (hk : k < 14) (h : ¬ r < nv k) : tk (k - 2) r = tk k r := by
  rw [tk_ge h]
  apply tk_lt
  unfold nv at h ⊢
  split_ifs at h ⊢ <;> omega

theorem xA_src (k : ℕ) (h : Fin 2) (x : (Sx (nv k)).Idx) (b : Fin 8) (j : Fin 1024)
    (hb : b.val = 4 * h.val + (x 0).val) (hj : j.val = (x 2).val) :
    xAt v (seg k) b (lst k + (x 1).val) j
      = (xsrc k h).view.read (Elt F) (v (xin (seg k)).view.ref) x := by
  have hx1 : (x 1).val < nv k := (x 1).isLt
  have := lst_le k
  change xA v (seg k) _ = xA v (seg k) ((Rect.unit (s := Sseg (seg k)) ![4 * h.val, lst k, 0] (Sx (nv k)).size (inb_xsrc k h)).emb x)
  congr 1
  funext a
  apply Fin.ext
  rw [Rect.emb_apply]
  fin_cases a
  · simp [Rect.unit, hb]
  · simp [Rect.unit]; exact Nat.mod_eq_of_lt (by omega)
  · simp [Rect.unit, hj]

/-- The rows of tile `k` land: what the copy writes over half a slot is `X k` there. -/
theorem land_x (k : ℕ) (hk : k < 14) (p h : Fin 2) (f : S2x8x256x1024.Idx → Elt F .f32)
    (hf : 12 ≤ k → f = X v (k - 2)) :
    ∀ i ∈ xhalf p h, (xdst k p h).view.write (Elt F) f
      (ReadAs.same.apply ((xsrc k h).view.read (Elt F) (v (xin (seg k)).view.ref))) Finset.univ i = X v k i := by
  refine write_eq_on (xdst k p h).view f (X v k) _ (xhalf p h) ?_ ?_
  · funext x
    have e1 := xdst_emb k p h x 1
    have e2 := xdst_emb k p h x 2
    have e3 := xdst_emb k p h x 3
    simp at e1 e2 e3
    have hx1 : (x 1).val < nv k := (x 1).isLt
    change X v k ((xdst k p h).view.emb x) = (xsrc k h).view.read (Elt F) (v (xin (seg k)).view.ref) x
    rw [← xA_src v k h x ((xdst k p h).view.emb x 1) ((xdst k p h).view.emb x 3) e1 e3]
    unfold X
    rw [show (((xdst k p h).view.emb x) 2).val = (x 1).val from e2, tk_lt hx1]
  · intro i hi hn
    rw [xhalf, Finset.mem_filter] at hi
    rw [mem_xdst] at hn
    have h2 : (i 2).val < 256 := (i 2).isLt
    have hnn : ¬ (i 2).val < nv k := fun hh => hn ⟨hi.2.1, hi.2.2, hh⟩
    rw [hf (nv_small (by omega))]
    unfold X
    rw [tk_tk h2 hk hnn]

/-- The positions of tile `k` land. -/
theorem land_p (k : ℕ) (hk : k < 14) (p : Fin 2) (f : S2x256x768.Idx → Elt F .f32)
    (hf : 12 ≤ k → f = PS v (k - 2)) :
    ∀ i ∈ pslab p, (pdst k p).view.write (Elt F) f
      (ReadAs.same.apply ((psrc k).view.read (Elt F) (v main_arg13))) Finset.univ i = PS v k i := by
  refine write_eq_on (pdst k p).view f (PS v k) _ (pslab p) ?_ ?_
  · funext x
    have e1 := pdst_emb k p x 1
    have e2 := pdst_emb k p x 2
    simp at e1 e2
    have hx1 : (x 0).val < nv k := (x 0).isLt
    have := gst_le k
    unfold PS
    change pAt v (gst (tk k (((pdst k p).view.emb x) 1).val) + (((pdst k p).view.emb x) 1).val) _
      = (v main_arg13 : S4096x768.Idx → Elt F .f32) ((Rect.unit (s := S4096x768) ![gst k, 0] (Sp (nv k)).size (inb_psrc k)).emb x)
    rw [show (((pdst k p).view.emb x) 1).val = (x 0).val from e1, tk_lt hx1]
    unfold pAt
    congr 1
    funext a
    apply Fin.ext
    rw [Rect.emb_apply]
    fin_cases a
    · simp [Rect.unit]; omega
    · simp [Rect.unit]; exact e2
  · intro i hi hn
    rw [pslab, Finset.mem_filter] at hi
    rw [mem_pdst] at hn
    have h2 : (i 1).val < 256 := (i 1).isLt
    have hnn : ¬ (i 1).val < nv k := fun hh => hn ⟨hi.2, hh⟩
    rw [hf (nv_small (by omega))]
    unfold PS
    rw [tk_tk h2 hk hnn]

/-- The weights of segment `s` land. -/
theorem land_w (s : Fin 4) (f : S4x1024x768.Idx → Elt F .f32) :
    ∀ i ∈ wslab s, (wdst s).view.write (Elt F) f
      (ReadAs.same.apply ((win s).view.read (Elt F) (v (win s).view.ref))) Finset.univ i = WB v i := by
  refine write_eq_on (wdst s).view f (WB v) _ (wslab s) ?_ ?_
  · funext x
    have e0 := wdst_emb s x 0
    have e1 := wdst_emb s x 1
    have e2 := wdst_emb s x 2
    simp at e0 e1 e2
    unfold WB
    change wA v (((wdst s).view.emb x) 0) _ = wA v s x
    rw [show ((wdst s).view.emb x) 0 = s from Fin.ext e0]
    congr 1
    funext a
    apply Fin.ext
    fin_cases a
    · exact e1
    · exact e2
  · intro i hi hn
    rw [wslab, Finset.mem_filter] at hi
    rw [mem_wdst] at hn
    exact absurd hi.2 hn

theorem tileOf_gst {k l : ℕ} (hk : k < 14) (h0 : gst k ≤ l) (h1 : l < gst k + nv k) : tileOf l = k := by
  unfold gst nv at *; unfold tileOf; split_ifs at * <;> omega

/-- The result rows of tile `k` land in the result. -/
theorem land_o (k : ℕ) (hk : k < 14) (p h : Fin 2) (f : S8x3232x768.Idx → Elt F .f32) :
    ∀ i ∈ (odst k h).view.set, (odst k h).view.write (Elt F) f
      (ReadAs.same.apply ((osrc k p h).view.read (Elt F) (OB v k))) Finset.univ i = OUT v i := by
  refine write_eq_on (odst k h).view f (OUT v) _ _ ?_ ?_
  · funext x
    have e0 := odst_emb k h x 0
    have e1 := odst_emb k h x 1
    have e2 := odst_emb k h x 2
    have f1 := osrc_emb k p h x 1
    have f2 := osrc_emb k p h x 2
    have f3 := osrc_emb k p h x 3
    simp at e0 e1 e2 f1 f2 f3
    have hx1 : (x 1).val < nv k := (x 1).isLt
    change OUT v ((odst k h).view.emb x) = OB v k ((osrc k p h).view.emb x)
    have ht : tileOf (((odst k h).view.emb x) 1).val = k := by
      rw [show (((odst k h).view.emb x) 1).val = gst k + (x 1).val from e1]
      exact tileOf_gst hk (by omega) (by omega)
    unfold OUT OB
    have hi : ((odst k h).view.emb x) 0 = ((osrc k p h).view.emb x) 1 := Fin.ext (e0.trans f1.symm)
    have hj : ((odst k h).view.emb x) 2 = ((osrc k p h).view.emb x) 3 := Fin.ext (e2.trans f3.symm)
    have hr : (⟨(((odst k h).view.emb x) 1).val - gst (tileOf (((odst k h).view.emb x) 1).val),
        tileOf_row _ (((odst k h).view.emb x) 1).isLt⟩ : Fin 256) = ((osrc k p h).view.emb x) 2 := by
      apply Fin.ext
      change _ - gst (tileOf _) = _
      rw [ht, show (((odst k h).view.emb x) 1).val = gst k + (x 1).val from e1]
      exact (Nat.add_sub_cancel_left _ _).trans f2.symm
    rw [hr, hi, hj, ht]
  · intro i hi hn
    exact absurd hi hn

/-- The result slot after the first `n` batch entries. -/
def OBn (k : ℕ) (f : S2x8x256x768.Idx → Elt F .f32) (n : ℕ) : S2x8x256x768.Idx → Elt F .f32 :=
  fun i => if (i 1).val < n then OB v k i else f i

theorem orow_emb (p : Fin 2) (i : Fin 8) (x : S1x1x256x768.Idx) (a : Fin 4) :
    ((Rect.unit (s := S2x8x256x768) ![p.val, i.val, 0, 0] S1x1x256x768.size (inb_orow p i)).emb x a : ℕ)
      = (![p.val, i.val, (x 2).val, (x 3).val] : Fin 4 → ℕ) a := by
  have h0 : (x 0).val < 1 := (x 0).isLt
  have h1 : (x 1).val < 1 := (x 1).isLt
  rw [Rect.emb_apply]
  fin_cases a <;> simp [Rect.unit] <;> omega

/-- Storing batch entry `i` extends the computed part of the slot. -/
theorem store_o (k : ℕ) (i : Fin 8) (f : S2x8x256x768.Idx → Elt F .f32) :
    ∀ j ∈ oslab (par k), (obuf.access (Rect.unit (s := S2x8x256x768) ![(par k).val, i.val, 0, 0] S1x1x256x768.size (inb_orow (par k) i))).write
      (Elt F) (OBn v k f i.val) (orow v k i) Finset.univ j = OBn v k f (i.val + 1) j := by
  refine write_eq_on (obuf.access (Rect.unit (s := S2x8x256x768) ![(par k).val, i.val, 0, 0] S1x1x256x768.size (inb_orow (par k) i))) (OBn v k f i.val) (OBn v k f (i.val + 1)) _ (oslab (par k)) ?_ ?_
  · funext x
    set y := (Rect.unit (s := S2x8x256x768) ![(par k).val, i.val, 0, 0] S1x1x256x768.size (inb_orow (par k) i)).emb x with hy
    have e1 : (y 1).val = i.val := orow_emb (par k) i x 1
    have e2 : (y 2).val = (x 2).val := orow_emb (par k) i x 2
    have e3 : (y 3).val = (x 3).val := orow_emb (par k) i x 3
    change OBn v k f (i.val + 1) y = orow v k i x
    unfold OBn OB
    rw [if_pos (by rw [show (y 1).val = i.val from e1]; omega), show y 1 = i from Fin.ext e1]
    congr 1
    funext a
    apply Fin.ext
    have h0 : (x 0).val < 1 := (x 0).isLt
    have h1 : (x 1).val < 1 := (x 1).isLt
    fin_cases a
    · change 0 = (x 0).val; omega
    · change 0 = (x 1).val; omega
    · exact e2
    · exact e3
  · intro j hj hn
    rw [oslab, Finset.mem_filter] at hj
    have hs : (j 1).val ≠ i.val := by
      intro he
      apply hn
      rw [show (obuf.access (Rect.unit (s := S2x8x256x768) ![(par k).val, i.val, 0, 0] S1x1x256x768.size (inb_orow (par k) i))).set
        = (Rect.unit (s := S2x8x256x768) ![(par k).val, i.val, 0, 0] S1x1x256x768.size (inb_orow (par k) i)).set from View.set_slice_whole _ _,
        Rect.mem_set_unit, Fin.forall_fin_succ, Fin.forall_fin_succ, Fin.forall_fin_succ, Fin.forall_fin_succ]
      have h2 : (j 2).val < 256 := (j 2).isLt
      have h3 : (j 3).val < 768 := (j 3).isLt
      have h4 := hj.2
      simp
      omega
    unfold OBn
    by_cases hlt : (j 1).val < i.val
    · rw [if_pos hlt, if_pos (by omega)]
    · rw [if_neg hlt, if_neg (by omega)]

end

end Cert.Kernel.Hand

end
-- ==== Proof.Res.lean ====
module

public import proofs.«01_k».proof.Proof.Contents
public import Idealize.ShloMosaic.Lib.Batch
public import Idealize.ShloMosaic.Lib.Pipeline.FrameSuffixV

/-! # What the core holds between statements

Each double buffer's slot is either free or has its copies in flight. A slot's copies share one
semaphore: both halves of a row slot are one batch, which gives everything back at its last wait. -/

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts Facts₀

variable {F : FTy → Type} [FloatOps F]

local notation "𝕄" => MT nD τ sig Unit (Elt F) ℕ (Pipeline.UD sig nD τ) ℕ

/-- The weakest precondition of a program of core `c`. -/
abbrev W (c : Dev nD) {α : Type} (p : P F α) (Q : α → sProp 𝕄) : sProp 𝕄 :=
  wp frame (wpE (defs₀ (F := F)) Variants.none (c : Thread nD τ) none) Set.univ p Q

variable {c : Dev nD} (v : (b : Ref sig .tc) → Buf (Elt F) ((c : Thread nD τ).loc b))

/-- Running `p` first, from what it needs to what it leaves. -/
theorem W_step {p : P F PUnit} {A B : sProp 𝕄} (h : A ⊢ W c p fun _ => B) {α : Type} {K : PUnit → P F α}
    {Q : α → sProp 𝕄} : A ⊢ iprop((B -∗ W c (K ⟨⟩) Q) -∗ W c (p >>= K) Q) := by
  iintro HA Hk
  unfold W
  rw [wp_bind]
  ihave HA := h $$ HA
  iapply (wp_wand frame _ _) $$ HA
  iintro %a HB
  iapply Hk $$ HB

/-- A program that only returns leaves what it finds. -/
theorem W_ret (B : sProp 𝕄) : B ⊢ W c (.ret ⟨⟩ : P F PUnit) fun _ => B := by
  iintro H
  unfold W
  rw [wp_ret]
  imodintro
  iexact H

/-- What the core owes: nothing; with the record of its waits. -/
def OW (c : Dev nD) : sProp 𝕄 := iprop(∃ Ws, owes (c : Thread nD τ) 0 Ws)

/-- A batch in flight: all `n` transfers started, none waited for. -/
abbrev Fl (c : Dev nD) {n : ℕ} (sm : DmaSem sig) (N : ℕ) (D : Fin n → sProp 𝕄) (j u : ℕ) : sProp 𝕄 :=
  Transfers.Batch (countersEmb (U := Pipeline.UD sig nD τ)) (c : Thread nD τ) (.dma sm) () N D j u

/-- The share of an input that half `h` of slot `p` reads through, and the one slot `p` reads through. -/
def qs (p : Fin 2) : PosShare TreeShare := if p.val = 0 then fullShare.left else fullShare.right
def qh (p h : Fin 2) : PosShare TreeShare := if h.val = 0 then (qs p).left else (qs p).right

/-! ## Rows -/

/-- Every segment, read through the share of half `h` of slot `p`. -/
def XHome (p h : Fin 2) : sProp 𝕄 :=
  bigSep (Finset.univ : Finset (Fin 4)) fun s => ((xin s).view.loc (c : Thread nD τ)) ↦{qh p h} v (xin s).view.ref
/-- The same without the rows half `h` of tile `k` copies. -/
def XAway (k : ℕ) (h : Fin 2) : sProp 𝕄 :=
  iprop((((xin (seg k)).view.loc (c : Thread nD τ)) ↦[Finset.univ \ (xsrc k h).view.set]{qh (par k) h} v (xin (seg k)).view.ref)
    ∗ bigSep ((Finset.univ : Finset (Fin 4)).erase (seg k)) fun s => ((xin s).view.loc (c : Thread nD τ)) ↦{qh (par k) h} v (xin s).view.ref)
def XGot (k : ℕ) (h : Fin 2) : sProp 𝕄 :=
  ((xsrc k h).view.loc (c : Thread nD τ)) ↦[(xsrc k h).view.set]{qh (par k) h} v (xin (seg k)).view.ref

theorem xhome_split (k : ℕ) (h : Fin 2) : XHome v (par k) h ⊣⊢ iprop(XGot v k h ∗ XAway v k h) := by
  have hs : ((((xin (seg k)).view.loc (c : Thread nD τ)) ↦{qh (par k) h} v (xin (seg k)).view.ref : sProp 𝕄)) ⊣⊢ _ :=
    pointsTo_split_subset (Finset.subset_univ (xsrc k h).view.set)
  have he : XHome v (par k) h = iprop((((xin (seg k)).view.loc (c : Thread nD τ)) ↦{qh (par k) h} v (xin (seg k)).view.ref)
      ∗ bigSep ((Finset.univ : Finset (Fin 4)).erase (seg k)) fun s => ((xin s).view.loc (c : Thread nD τ)) ↦{qh (par k) h} v (xin s).view.ref) :=
    BI.bigSep_erase (Finset.mem_univ (seg k))
  rw [he]
  unfold XGot XAway
  constructor
  · iintro ⟨H, Hr⟩
    ihave H := hs.1 $$ H
    icases H with ⟨H1, H2⟩
    isplitl [H1]; · iexact H1
    isplitl [H2]; · iexact H2
    iexact Hr
  · iintro ⟨H1, H2, Hr⟩
    isplitl [H1 H2]
    · iapply hs.2
      isplitl [H1]; · iexact H1
      iexact H2
    · iexact Hr

/-- Slot `p` of the row buffer, and half of it, at `f`. -/
def XS (c : Dev nD) (p : Fin 2) (f : S2x8x256x1024.Idx → Elt F .f32) : sProp 𝕄 :=
  (xbuf.view.loc (c : Thread nD τ)) ↦[xslab p]{fullShare} f
def XPt (c : Dev nD) (p h : Fin 2) (f : S2x8x256x1024.Idx → Elt F .f32) : sProp 𝕄 :=
  (xbuf.view.loc (c : Thread nD τ)) ↦[xhalf p h]{fullShare} f

theorem xs_halves (p : Fin 2) (f : S2x8x256x1024.Idx → Elt F .f32) :
    XS c p f ⊣⊢ iprop(XPt c p 0 f ∗ XPt c p 1 f) := by
  have hu : xslab p = xhalf p 0 ∪ xhalf p 1 := by
    ext i
    have h1 : (i 1).val < 8 := (i 1).isLt
    simp only [xslab, xhalf, Finset.mem_union, Finset.mem_filter, Finset.mem_univ, true_and, Fin.val_zero, Fin.val_one]
    omega
  have hd : Disjoint (xhalf p 0) (xhalf p 1) := by
    rw [Finset.disjoint_left]
    intro i h0 h1
    have a := (Finset.mem_filter.1 h0).2.2; have b := (Finset.mem_filter.1 h1).2.2
    rw [a] at b; exact absurd b (by decide)
  unfold XS XPt
  rw [hu]
  exact pointsTo_union hd

/-- What the copy of half `h` of tile `k` delivers. -/
def DX (k : ℕ) (h : Fin 2) : sProp 𝕄 := iprop(XPt c (par k) h (X v k) ∗ XGot v k h)
instance DX_storable (k : ℕ) (h : Fin 2) : Storable (upEmb : UEmb _ 𝕄) (DX v k h) := by
  unfold DX XGot XPt; infer_instance

/-- The units of one half of tile `k`'s rows. -/
def NX (k : ℕ) : ℕ := (xdst k (par k) 0).view.dmaCredit

/-- The slot of tile `k` free, before tile `k`. -/
def XFree (k : ℕ) : sProp 𝕄 :=
  iprop(∃ f : S2x8x256x1024.Idx → Elt F .f32, ⌜12 ≤ k → f = X v (k - 2)⌝ ∗ XS c (par k) f
    ∗ semVal ((c : Thread nD τ), SemLoc.dma (xsem (par k))) 0 ∗ XHome v (par k) 0 ∗ XHome v (par k) 1)
/-- Tile `k`'s rows in flight. -/
def XFly (k : ℕ) : sProp 𝕄 :=
  iprop(Fl c (xsem (par k)) (NX k) (DX v k) 2 0 ∗ XAway v k 0 ∗ XAway v k 1)
/-- Tile `k`'s rows landed. -/
def XHere (k : ℕ) : sProp 𝕄 :=
  iprop(XS c (par k) (X v k)
    ∗ semVal ((c : Thread nD τ), SemLoc.dma (xsem (par k))) 0 ∗ XHome v (par k) 0 ∗ XHome v (par k) 1)

theorem par_add_two (k : ℕ) : par (k + 2) = par k := by unfold par; apply Fin.ext; exact Nat.add_mod_right k 2

theorem xhere_free (k : ℕ) : XHere v k ⊢ XFree v (k + 2) := by
  unfold XHere XFree
  rw [par_add_two, Nat.add_sub_cancel]
  iintro ⟨H0, H⟩
  iexists X v k
  isplitr; · ipureintro; exact fun _ => rfl
  isplitl [H0]; · iexact H0
  iexact H

theorem xdst_sub (k : ℕ) (p h : Fin 2) : (xdst k p h).view.set ⊆ xhalf p h := by
  intro i hi
  rw [mem_xdst] at hi
  exact Finset.mem_filter.2 ⟨Finset.mem_univ _, hi.1, hi.2.1⟩

theorem xStart_spec (k : ℕ) (hk : k < 14) (h : Fin 2) (f : S2x8x256x1024.Idx → Elt F .f32)
    (hf : 12 ≤ k → f = X v (k - 2)) :
    iprop(XPt c (par k) h f ∗ XGot v k h ∗ Fl c (xsem (par k)) (NX k) (DX v k) h.val 0)
      ⊢ W c (xStart k h) fun _ => Fl c (xsem (par k)) (NX k) (DX v k) (h.val + 1) 0 := by
  have hD : iprop(((xdst k (par k) h).view.loc (c : Thread nD τ) ↦[xhalf (par k) h]{fullShare}
      ((xdst k (par k) h).view.write (Elt F) f (ReadAs.same.apply ((xsrc k h).view.read (Elt F) (v (xin (seg k)).view.ref))) Finset.univ))
      ∗ ((xsrc k h).view.loc (c : Thread nD τ) ↦[(xsrc k h).view.set]{qh (par k) h} v (xin (seg k)).view.ref))
      ⊢ DX v k h := by
    unfold DX XGot XPt
    refine sep_mono_left (Entails.of_eq ?_)
    exact pointsTo_congr (land_x v k hk (par k) h f hf)
  unfold XGot XPt
  iintro ⟨Hd, Hs, Hb⟩
  iapply (Transfers.wp_dmaBatch (countersEmb (U := Pipeline.UD sig nD τ)) Variants.none (c : Thread nD τ) none () (NX k) rfl
    (xdst_sub k (par k) h) h.isLt (Nat.zero_le _) hD) $$ [Hd Hs Hb]
  · isplitl [Hs]; · iexact Hs
    isplitl [Hd]; · iexact Hd
    iexact Hb
  · iintro H
    iapply W_ret
    iexact H

/-- Starting both halves of tile `k`. -/
def xFetch (k : ℕ) : P F PUnit := do xStart k 0; xStart k 1
def xWaits (k : ℕ) : P F PUnit := do xWait k 0; xWait k 1

theorem xFetch_spec (k : ℕ) (hk : k < 14) : XFree v k ⊢ W c (xFetch k) fun _ => XFly v k := by
  unfold XFree XFly xFetch
  iintro ⟨%f, %hf, Hs, Hsem, H0, H1⟩
  ihave Hs := (xs_halves (par k) f).1 $$ Hs
  icases Hs with ⟨Hs0, Hs1⟩
  ihave H0 := (xhome_split v k 0).1 $$ H0
  icases H0 with ⟨Hg0, Ha0⟩
  ihave H1 := (xhome_split v k 1).1 $$ H1
  icases H1 with ⟨Hg1, Ha1⟩
  imod (Transfers.batch_alloc' (Lvl := ℕ) (countersEmb (U := Pipeline.UD sig nD τ)) (c : Thread nD τ) () (NX k) (DX v k)
    (sm := SemLoc.dma (xsem (par k))) (E := Set.univ)) $$ Hsem with HB
  iapply (W_step (xStart_spec v k hk 0 f hf)) $$ [Hs0 Hg0 HB]
  · isplitl [Hs0]; · iexact Hs0
    isplitl [Hg0]; · iexact Hg0
    iexact HB
  iintro HB
  iapply (wp_wand frame _ _) $$ [Hs1 Hg1 HB]
  · iapply (xStart_spec v k hk 1 f hf)
    isplitl [Hs1]; · iexact Hs1
    isplitl [Hg1]; · iexact Hg1
    iexact HB
  · iintro %_ HB
    isplitl [HB]; · iexact HB
    isplitl [Ha0]; · iexact Ha0
    iexact Ha1

theorem NX_pos (k : ℕ) : 0 < NX k := by
  have h : 0 < (Sx (nv k)).numel := by
    have := nv_pos k
    simp [Shape.numel, Fin.prod_univ_three]
    omega
  exact View.dmaCredit_pos _ h

theorem xWaits_spec (k : ℕ) : iprop(XFly v k ∗ OW c) ⊢ W c (xWaits k) fun _ => iprop(XHere v k ∗ OW c) := by
  have h2 : ∀ h : Fin 2, (xdst k (par k) h).view.dmaCredit = NX k := fun _ => rfl
  have hp := NX_pos k
  unfold XFly OW
  iintro ⟨⟨HB, Ha0, Ha1⟩, %Ws, HO⟩
  iapply (Transfers.wp_waitBatch (countersEmb (U := Pipeline.UD sig nD τ)) Variants.none (c : Thread nD τ) none () (h2 0)
    (D := DX v k) (u := 0) (by omega)) $$ [HB HO]
  · isplitl [HB]; · iexact HB
    iexact HO
  iintro ⟨HB, HO⟩
  iapply (Transfers.wp_waitBatchLast (countersEmb (U := Pipeline.UD sig nD τ)) Variants.none (c : Thread nD τ) none () (h2 1) hp
    (D := DX v k) (u := 0 + NX k) (by omega)) $$ [HB HO]
  · isplitl [HB]; · iexact HB
    iexact HO
  rw [show bigSep Finset.univ (DX v k) = iprop(DX v k 0 ∗ DX v k 1) from BI.bigSep_fin_two _]
  unfold DX
  iintro ⟨⟨⟨Hs0, Hg0⟩, Hs1, Hg1⟩, Hsem, HO⟩
  iapply W_ret
  unfold XHere
  isplitr [HO]
  · isplitl [Hs0 Hs1]
    · iapply (xs_halves (par k) _).2
      isplitl [Hs0]; · iexact Hs0
      iexact Hs1
    isplitl [Hsem]; · iexact Hsem
    isplitl [Hg0 Ha0]
    · iapply (xhome_split v k 0).2
      isplitl [Hg0]; · iexact Hg0
      iexact Ha0
    · iapply (xhome_split v k 1).2
      isplitl [Hg1]; · iexact Hg1
      iexact Ha1
  · iexists _
    iexact HO

end Cert.Kernel.Hand

end
-- ==== Proof.ResP.lean ====
module

public import proofs.«01_k».proof.Proof.Res

/-! # What the core holds of positions and weights -/

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts Facts₀

variable {F : FTy → Type} [FloatOps F]

local notation "𝕄" => MT nD τ sig Unit (Elt F) ℕ (Pipeline.UD sig nD τ) ℕ

variable {c : Dev nD} (v : (b : Ref sig .tc) → Buf (Elt F) ((c : Thread nD τ).loc b))

/-! ## One copy on a semaphore of its own -/

/-- Starting it: what it moves goes into flight. -/
theorem one_start {sh : Shape} {e : EltTy} (src : Memref sig .tc .hbm sh e) (dst : Memref sig .tc .vmem sh e) (sm : DmaSem sig)
    (hs : src.view.WordExact) (hd : dst.view.WordExact) (ht : DmaTarget.Typed (nD := nD) .hbm (.dma sm) (.here (p := (Proc.tc : Proc τ)) dst))
    (Sd : Finset (Idx (dst.view.loc (c : Thread nD τ)))) (hSd : dst.view.set ⊆ Sd) (q : PosShare TreeShare)
    (fs : Buf (Elt F) (src.view.loc (c : Thread nD τ))) (fd : Buf (Elt F) (dst.view.loc (c : Thread nD τ)))
    (D : Fin 1 → sProp 𝕄) [∀ i, Storable (upEmb : UEmb _ 𝕄) (D i)]
    (hD : iprop(((dst.view.loc (c : Thread nD τ)) ↦[Sd]{fullShare} (dst.view.write (Elt F) fd (ReadAs.same.apply (src.view.read (Elt F) fs)) Finset.univ))
        ∗ ((src.view.loc (c : Thread nD τ)) ↦[src.view.set]{q} fs)) ⊢ D 0) :
    iprop(((src.view.loc (c : Thread nD τ)) ↦[src.view.set]{q} fs) ∗ ((dst.view.loc (c : Thread nD τ)) ↦[Sd]{fullShare} fd)
        ∗ semVal ((c : Thread nD τ), SemLoc.dma sm) 0)
      ⊢ W c (Prog.lift (.enqueueDma src (.here dst) (.dma sm) hs hd ht) : P F PUnit)
          fun _ => Fl c sm dst.view.dmaCredit D 1 0 := by
  iintro ⟨Hs, Hd, Hsem⟩
  imod (Transfers.batch_alloc' (Lvl := ℕ) (countersEmb (U := Pipeline.UD sig nD τ)) (c : Thread nD τ) () dst.view.dmaCredit D
    (sm := SemLoc.dma sm) (E := Set.univ)) $$ Hsem with HB
  iapply (Transfers.wp_dmaBatch (countersEmb (U := Pipeline.UD sig nD τ)) Variants.none (c : Thread nD τ) none () dst.view.dmaCredit rfl
    hSd Nat.one_pos (Nat.zero_le _) hD) $$ [Hd Hs HB]
  · isplitl [Hs]; · iexact Hs
    isplitl [Hd]; · iexact Hd
    iexact HB
  · iintro H
    iapply W_ret
    iexact H

/-- Waiting for it: it delivers. -/
theorem one_wait {sh : Shape} {e : EltTy} (src : Memref sig .tc .hbm sh e) (dst : Memref sig .tc .vmem sh e) (sm : DmaSem sig)
    (hs : src.view.WordExact) (hd : dst.view.WordExact) (hn : 0 < sh.numel) (D : Fin 1 → sProp 𝕄) :
    iprop(Fl c sm dst.view.dmaCredit D 1 0 ∗ OW c)
      ⊢ W c (Prog.lift (.waitDma2 sm src dst hs hd) : P F PUnit)
          fun _ => iprop(D 0 ∗ semVal ((c : Thread nD τ), SemLoc.dma sm) 0 ∗ OW c) := by
  have hp := View.dmaCredit_pos dst.view hn
  unfold OW
  iintro ⟨HB, %Ws, HO⟩
  iapply (Transfers.wp_waitBatchLast (countersEmb (U := Pipeline.UD sig nD τ)) Variants.none (c : Thread nD τ) none () rfl hp
    (D := D) (u := 0) (by omega)) $$ [HB HO]
  · isplitl [HB]; · iexact HB
    iexact HO
  rw [show bigSep Finset.univ D = D 0 from BI.bigSep_singleton]
  iintro ⟨Hs, Hsem, HO⟩
  iapply W_ret
  isplitl [Hs]; · iexact Hs
  isplitl [Hsem]; · iexact Hsem
  iexists _
  iexact HO

theorem numel_two (n m : ℕ) (hn : 0 < n) (hm : 0 < m) : 0 < (⟨2, ![n, m]⟩ : Shape).numel := by
  simp [Shape.numel, Fin.prod_univ_two]
  exact ⟨hn, hm⟩

/-! ## Positions -/

/-- Slot `p` of the position buffer at `f`. -/
def PSl (c : Dev nD) (p : Fin 2) (f : S2x256x768.Idx → Elt F .f32) : sProp 𝕄 :=
  (pbuf.view.loc (c : Thread nD τ)) ↦[pslab p]{fullShare} f
/-- The table, read through the share of slot `p`; the rows tile `k` copies; the others. -/
def PHome (p : Fin 2) : sProp 𝕄 := (pin.view.loc (c : Thread nD τ)) ↦{qs p} v main_arg13
def PGot (k : ℕ) : sProp 𝕄 := ((psrc k).view.loc (c : Thread nD τ)) ↦[(psrc k).view.set]{qs (par k)} v main_arg13
def PAway (k : ℕ) : sProp 𝕄 := (pin.view.loc (c : Thread nD τ)) ↦[Finset.univ \ (psrc k).view.set]{qs (par k)} v main_arg13

theorem phome_split (k : ℕ) : PHome v (par k) ⊣⊢ iprop(PGot v k ∗ PAway v k) := by
  unfold PHome PGot PAway
  exact pointsTo_split_subset (Finset.subset_univ (psrc k).view.set)

/-- What the copy of tile `k`'s positions delivers. -/
def DP (k : ℕ) (_ : Fin 1) : sProp 𝕄 := iprop(PSl c (par k) (PS v k) ∗ PGot v k)
instance DP_storable (k : ℕ) (h : Fin 1) : Storable (upEmb : UEmb _ 𝕄) (DP v k h) := by
  unfold DP PSl PGot; infer_instance

def PFree (k : ℕ) : sProp 𝕄 :=
  iprop(∃ f : S2x256x768.Idx → Elt F .f32, ⌜12 ≤ k → f = PS v (k - 2)⌝ ∗ PSl c (par k) f
    ∗ semVal ((c : Thread nD τ), SemLoc.dma (psem (par k))) 0 ∗ PHome v (par k))
def PFly (k : ℕ) : sProp 𝕄 := iprop(Fl c (psem (par k)) (pdst k (par k)).view.dmaCredit (DP v k) 1 0 ∗ PAway v k)
def PHere (k : ℕ) : sProp 𝕄 :=
  iprop(PSl c (par k) (PS v k) ∗ semVal ((c : Thread nD τ), SemLoc.dma (psem (par k))) 0 ∗ PHome v (par k))

theorem phere_free (k : ℕ) : PHere v k ⊢ PFree v (k + 2) := by
  unfold PHere PFree
  rw [par_add_two, Nat.add_sub_cancel]
  iintro ⟨H0, H⟩
  iexists PS v k
  isplitr; · ipureintro; exact fun _ => rfl
  isplitl [H0]; · iexact H0
  iexact H

theorem pdst_sub (k : ℕ) (p : Fin 2) : (pdst k p).view.set ⊆ pslab p := by
  intro i hi
  rw [mem_pdst] at hi
  exact Finset.mem_filter.2 ⟨Finset.mem_univ _, hi.1⟩

theorem pStart_spec (k : ℕ) (hk : k < 14) : PFree v k ⊢ W c (pStart k) fun _ => PFly v k := by
  unfold PFree PFly
  iintro ⟨%f, %hf, Hd, Hsem, H⟩
  have hD : iprop(((pdst k (par k)).view.loc (c : Thread nD τ) ↦[pslab (par k)]{fullShare}
      ((pdst k (par k)).view.write (Elt F) f (ReadAs.same.apply ((psrc k).view.read (Elt F) (v main_arg13))) Finset.univ))
      ∗ ((psrc k).view.loc (c : Thread nD τ) ↦[(psrc k).view.set]{qs (par k)} v main_arg13)) ⊢ DP v k 0 := by
    unfold DP PGot PSl
    refine sep_mono_left (Entails.of_eq ?_)
    exact pointsTo_congr (land_p v k hk (par k) f hf)
  ihave H := (phome_split v k).1 $$ H
  icases H with ⟨Hg, Ha⟩
  unfold PSl PGot
  iapply (wp_wand frame _ _) $$ [Hd Hg Hsem]
  · iapply (one_start (psrc k) (pdst k (par k)) (psem (par k)) _ _ _ (pslab (par k)) (pdst_sub k (par k)) (qs (par k)) (v main_arg13) f (DP v k) hD)
    isplitl [Hg]; · iexact Hg
    isplitl [Hd]; · iexact Hd
    iexact Hsem
  · iintro %_ H
    isplitl [H]; · iexact H
    iexact Ha

theorem pWait_spec (k : ℕ) : iprop(PFly v k ∗ OW c) ⊢ W c (pWait k) fun _ => iprop(PHere v k ∗ OW c) := by
  have hn : 0 < (Sp (nv k)).numel := numel_two (nv k) 768 (nv_pos k) (Nat.succ_pos _)
  unfold PFly
  iintro ⟨⟨HB, Ha⟩, HO⟩
  iapply (wp_wand frame _ _) $$ [HB HO]
  · iapply (one_wait (psrc k) (pdst k (par k)) (psem (par k)) _ _ hn (DP v k))
    isplitl [HB]; · iexact HB
    iexact HO
  unfold DP PHere
  iintro %_ ⟨⟨Hs, Hg⟩, Hsem, HO⟩
  isplitr [HO]
  · isplitl [Hs]; · iexact Hs
    isplitl [Hsem]; · iexact Hsem
    iapply (phome_split v k).2
    isplitl [Hg]; · iexact Hg
    iexact Ha
  · iexact HO

/-! ## Weights -/

/-- The part of the staging buffer for segment `s`, at `f`; and the segment's weights. -/
def WSl (c : Dev nD) (s : Fin 4) (f : S4x1024x768.Idx → Elt F .f32) : sProp 𝕄 :=
  (wbuf.view.loc (c : Thread nD τ)) ↦[wslab s]{fullShare} f
def WGot (s : Fin 4) : sProp 𝕄 :=
  ((win s).view.loc (c : Thread nD τ)) ↦[(win s).view.set]{fullShare} v (win s).view.ref

def DW (s : Fin 4) (_ : Fin 1) : sProp 𝕄 := iprop(WSl c s (WB v) ∗ WGot v s)
instance DW_storable (s : Fin 4) (h : Fin 1) : Storable (upEmb : UEmb _ 𝕄) (DW v s h) := by
  unfold DW WSl WGot; infer_instance

def WFree (s : Fin 4) : sProp 𝕄 :=
  iprop(∃ f : S4x1024x768.Idx → Elt F .f32, WSl c s f ∗ semVal ((c : Thread nD τ), SemLoc.dma (wsem s)) 0 ∗ WGot v s)
def WFly (s : Fin 4) : sProp 𝕄 := Fl c (wsem s) (wdst s).view.dmaCredit (DW v s) 1 0
def WHere (s : Fin 4) : sProp 𝕄 :=
  iprop(WSl c s (WB v) ∗ semVal ((c : Thread nD τ), SemLoc.dma (wsem s)) 0 ∗ WGot v s)

theorem wdst_sub (s : Fin 4) : (wdst s).view.set ⊆ wslab s := by
  intro i hi
  rw [mem_wdst] at hi
  exact Finset.mem_filter.2 ⟨Finset.mem_univ _, hi⟩

theorem wStart_spec (s : Fin 4) : WFree v s ⊢ W c (wStart s) fun _ => WFly v s := by
  unfold WFree WFly
  iintro ⟨%f, Hd, Hsem, Hg⟩
  have hD : iprop(((wdst s).view.loc (c : Thread nD τ) ↦[wslab s]{fullShare}
      ((wdst s).view.write (Elt F) f (ReadAs.same.apply ((win s).view.read (Elt F) (v (win s).view.ref))) Finset.univ))
      ∗ ((win s).view.loc (c : Thread nD τ) ↦[(win s).view.set]{fullShare} v (win s).view.ref)) ⊢ DW v s 0 := by
    unfold DW WSl WGot
    refine sep_mono_left (Entails.of_eq ?_)
    exact pointsTo_congr (land_w v s f)
  unfold WSl WGot
  iapply (one_start (win s) (wdst s) (wsem s) _ _ _ (wslab s) (wdst_sub s) fullShare (v (win s).view.ref) f (DW v s) hD)
  isplitl [Hg]; · iexact Hg
  isplitl [Hd]; · iexact Hd
  iexact Hsem

theorem wNumel : 0 < S1024x768.numel := numel_two 1024 768 (Nat.succ_pos _) (Nat.succ_pos _)

theorem wWait_spec (s : Fin 4) : iprop(WFly v s ∗ OW c) ⊢ W c (wWait s) fun _ => iprop(WHere v s ∗ OW c) := by
  unfold WFly
  iintro ⟨HB, HO⟩
  iapply (wp_wand frame _ _) $$ [HB HO]
  · iapply (one_wait (win s) (wdst s) (wsem s) _ _ wNumel (DW v s))
    isplitl [HB]; · iexact HB
    iexact HO
  unfold DW WHere
  iintro %_ ⟨⟨Hs, Hg⟩, Hsem, HO⟩
  isplitr [HO]
  · isplitl [Hs]; · iexact Hs
    isplitl [Hsem]; · iexact Hsem
    iexact Hg
  · iexact HO

/-- The current weights and bias row at given contents, and the bias rows of every segment. -/
def WCur (c : Dev nD) (w : S1024x768.Idx → Elt F .bf16) (b : S1x768.Idx → Elt F .f32) : sProp 𝕄 :=
  iprop(((wcur.view.loc (c : Thread nD τ)) ↦{fullShare} w) ∗ (bcur.view.loc (c : Thread nD τ)) ↦{fullShare} b)
def BAll : sProp 𝕄 := (bstg.view.loc (c : Thread nD τ)) ↦{fullShare} bA v

theorem wslot_sub (s : Fin 4) :
    (wbuf.access (Rect.unit (s := S4x1024x768) ![s.val, 0, 0] S1x1024x768.size (inb_wdst s))).set ⊆ wslab s := by
  intro i hi
  have h : i ∈ (wdst s).view.set := by rw [View.set_reshape]; exact hi
  rw [mem_wdst] at h
  exact Finset.mem_filter.2 ⟨Finset.mem_univ _, h⟩

theorem wLoad_spec (s : Fin 4) (w : S1024x768.Idx → Elt F .bf16) (b : S1x768.Idx → Elt F .f32) :
    iprop(WFly v s ∗ OW c ∗ WCur c w b ∗ BAll v)
      ⊢ W c (wLoad s) fun _ => iprop(WHere v s ∗ OW c ∗ WCur c (WC v s) (BC v s) ∗ BAll v) := by
  have z2 : (![0, 0] : Fin 2 → ℕ) = fun _ => 0 := by funext a; fin_cases a <;> rfl
  have e4 : ∀ f u, (wcur.access (Rect.unit (s := S1024x768) ![0, 0] S1024x768.size inb_S1024x768_S1024x768_0_0)).write (Elt F) f u Finset.univ = u :=
    fun f u => Memref.write_access_unit_zero_univ (Elt F) cc0_scratch4 z2 _ f u
  have e5 : ∀ f u, (bcur.access (Rect.unit (s := S1x768) ![0, 0] S1x768.size inb_S1x768_S1x768_0_0)).write (Elt F) f u Finset.univ = u :=
    fun f u => Memref.write_access_unit_zero_univ (Elt F) cc0_scratch5 z2 _ f u
  unfold WCur BAll
  iintro ⟨HF, HO, ⟨Hw, Hb⟩, HB⟩
  iapply (W_step (wWait_spec v s)) $$ [HF HO]
  · isplitl [HF]; · iexact HF
    iexact HO
  iintro ⟨HH, HO⟩
  unfold WHere WSl
  icases HH with ⟨Hs, HH⟩
  iapply (wp_load_rect Variants.none (c : Thread nD τ) none Set.univ (wslot_sub s)) $$ Hs
  iintro Hs
  iapply (wp_load_rect Variants.none (c : Thread nD τ) none Set.univ (m := wcur)
    (r := Rect.unit (s := S1024x768) ![0, 0] S1024x768.size inb_S1024x768_S1024x768_0_0) (Finset.subset_univ _)) $$ Hw
  iintro Hw
  iapply (wp_store Variants.none (c : Thread nD τ) none Set.univ (m := wcur)
    (r := Rect.unit (s := S1024x768) ![0, 0] S1024x768.size inb_S1024x768_S1024x768_0_0) (Finset.subset_univ _)) $$ Hw
  iintro Hw
  iapply (wp_load_rect Variants.none (c : Thread nD τ) none Set.univ (m := bstg)
    (r := Rect.unit (s := S4x1x768) ![s.val, 0, 0] S1x1x768.size (inb_bias s)) (Finset.subset_univ _)) $$ HB
  iintro HB
  iapply (wp_load_rect Variants.none (c : Thread nD τ) none Set.univ (m := bcur)
    (r := Rect.unit (s := S1x768) ![0, 0] S1x768.size inb_S1x768_S1x768_0_0) (Finset.subset_univ _)) $$ Hb
  iintro Hb
  iapply (wp_store Variants.none (c : Thread nD τ) none Set.univ (m := bcur)
    (r := Rect.unit (s := S1x768) ![0, 0] S1x768.size inb_S1x768_S1x768_0_0) (Finset.subset_univ _)) $$ Hb
  iintro Hb
  iapply W_ret
  rw [e4, e5]
  isplitl [Hs HH]
  · isplitl [Hs]; · iexact Hs
    iexact HH
  isplitl [HO]; · iexact HO
  isplitl [Hw Hb]
  · isplitl [Hw]; · iexact Hw
    iexact Hb
  iexact HB

end Cert.Kernel.Hand

end
-- ==== Proof.ResO.lean ====
module

public import proofs.«01_k».proof.Proof.Res

/-! # What the core holds of the result -/

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts Facts₀

variable {F : FTy → Type} [FloatOps F]

local notation "𝕄" => MT nD τ sig Unit (Elt F) ℕ (Pipeline.UD sig nD τ) ℕ

variable {c : Dev nD} (v : (b : Ref sig .tc) → Buf (Elt F) ((c : Thread nD τ).loc b))

/-! ## Results -/

/-- Slot `p` of the result buffer at `f`. -/
def OSl (c : Dev nD) (p : Fin 2) (f : S2x8x256x768.Idx → Elt F .f32) : sProp 𝕄 :=
  (obuf.view.loc (c : Thread nD τ)) ↦[oslab p]{fullShare} f
/-- The rows of the result before row `l`, written; and from row `l` on, as they were. -/
def ODone (l : ℕ) : sProp 𝕄 := (oout.view.loc (c : Thread nD τ)) ↦[odone l]{fullShare} OUT v
def OTodo (l : ℕ) : sProp 𝕄 := (oout.view.loc (c : Thread nD τ)) ↦[otodo l]{fullShare} v main_v20
/-- Half `h` of tile `k`: its rows of the result, as they were and written; its rows in the buffer;
    and what of the slot is in neither half. -/
def OOld (k : ℕ) (h : Fin 2) : sProp 𝕄 := ((odst k h).view.loc (c : Thread nD τ)) ↦[(odst k h).view.set]{fullShare} v main_v20
def ONew (k : ℕ) (h : Fin 2) : sProp 𝕄 := ((odst k h).view.loc (c : Thread nD τ)) ↦[(odst k h).view.set]{fullShare} OUT v
def OGot (k : ℕ) (h : Fin 2) : sProp 𝕄 :=
  ((osrc k (par k) h).view.loc (c : Thread nD τ)) ↦[(osrc k (par k) h).view.set]{fullShare} OB v k
def ORest (k : ℕ) : sProp 𝕄 :=
  (obuf.view.loc (c : Thread nD τ)) ↦[(oslab (par k)).filter fun i => nv k ≤ (i 2).val]{fullShare} OB v k

/-- A region in three parts. -/
theorem three {ℓ : Loc nD τ sig} {q : PosShare TreeShare} {f : Buf (Elt F) ℓ} {S I J K : Finset (Idx ℓ)}
    (e : S = I ∪ (J ∪ K)) (hIJ : Disjoint I J) (hIK : Disjoint I K) (hJK : Disjoint J K) :
    (ℓ ↦[S]{q} f : sProp 𝕄) ⊣⊢ iprop((ℓ ↦[I]{q} f) ∗ (ℓ ↦[J]{q} f) ∗ ℓ ↦[K]{q} f) := by
  subst e
  have h1 : (ℓ ↦[I ∪ (J ∪ K)]{q} f : sProp 𝕄) ⊣⊢ _ := pointsTo_union (Finset.disjoint_union_right.2 ⟨hIJ, hIK⟩)
  have h2 : (ℓ ↦[J ∪ K]{q} f : sProp 𝕄) ⊣⊢ _ := pointsTo_union hJK
  constructor
  · iintro H
    ihave H := h1.1 $$ H
    icases H with ⟨H0, H⟩
    ihave H := h2.1 $$ H
    isplitl [H0]; · iexact H0
    iexact H
  · iintro ⟨H0, H⟩
    iapply h1.2
    isplitl [H0]; · iexact H0
    iapply h2.2
    iexact H

theorem half_ne {n : ℕ} (h0 : n / 4 = (0 : Fin 2).val) (h1 : n / 4 = (1 : Fin 2).val) : False := by
  rw [h0] at h1; exact absurd h1 (by decide)

theorem dst_disj (k : ℕ) : Disjoint (odst k 0).view.set (odst k 1).view.set := by
  rw [Finset.disjoint_left]
  intro i h0 h1
  exact half_ne ((mem_odst k 0 i).1 h0).1 ((mem_odst k 1 i).1 h1).1

theorem todo_split (k : ℕ) : OTodo v (gst k) ⊣⊢ iprop(OOld v k 0 ∗ OOld v k 1 ∗ OTodo v (gst k + nv k)) := by
  unfold OTodo OOld
  refine three ?_ (dst_disj k) ?_ ?_
  · ext i
    have h1 : (i 0).val < 8 := (i 0).isLt
    rw [Finset.mem_union, Finset.mem_union, mem_odst k 0 i, mem_odst k 1 i]
    simp only [otodo, Finset.mem_filter, Finset.mem_univ, true_and, Fin.val_zero, Fin.val_one]
    omega
  all_goals
    rw [Finset.disjoint_left]
    intro i h0 h1
    have a := ((mem_odst k _ i).1 h0).2.2
    have b : gst k + nv k ≤ (i 1).val := (Finset.mem_filter.1 h1).2
    omega

theorem done_split (k : ℕ) : ODone v (gst k + nv k) ⊣⊢ iprop(ONew v k 0 ∗ ONew v k 1 ∗ ODone v (gst k)) := by
  unfold ODone ONew
  refine three ?_ (dst_disj k) ?_ ?_
  · ext i
    have h1 : (i 0).val < 8 := (i 0).isLt
    rw [Finset.mem_union, Finset.mem_union, mem_odst k 0 i, mem_odst k 1 i]
    simp only [odone, Finset.mem_filter, Finset.mem_univ, true_and, Fin.val_zero, Fin.val_one]
    omega
  all_goals
    rw [Finset.disjoint_left]
    intro i h0 h1
    have a := ((mem_odst k _ i).1 h0).2.1
    have b : (i 1).val < gst k := (Finset.mem_filter.1 h1).2
    omega

theorem oslab_split (k : ℕ) : OSl c (par k) (OB v k) ⊣⊢ iprop(OGot v k 0 ∗ OGot v k 1 ∗ ORest v k) := by
  unfold OSl OGot ORest
  refine three ?_ ?_ ?_ ?_
  · ext i
    have h1 : (i 1).val < 8 := (i 1).isLt
    rw [Finset.mem_union, Finset.mem_union, mem_osrc k (par k) 0 i, mem_osrc k (par k) 1 i]
    simp only [oslab, Finset.mem_filter, Finset.mem_univ, true_and, Fin.val_zero, Fin.val_one]
    omega
  · rw [Finset.disjoint_left]
    intro i h0 h1
    exact half_ne ((mem_osrc k _ 0 i).1 h0).2.1 ((mem_osrc k _ 1 i).1 h1).2.1
  all_goals
    rw [Finset.disjoint_left]
    intro i h0 h1
    have a := ((mem_osrc k _ _ i).1 h0).2.2
    have b : nv k ≤ (i 2).val := (Finset.mem_filter.1 h1).2
    omega

/-- What the copy of half `h` of tile `k`'s result delivers, and its units. -/
def DO (k : ℕ) (h : Fin 2) : sProp 𝕄 := iprop(ONew v k h ∗ OGot v k h)
instance DO_storable (k : ℕ) (h : Fin 2) : Storable (upEmb : UEmb _ 𝕄) (DO v k h) := by
  unfold DO ONew OGot; infer_instance
def NO (k : ℕ) : ℕ := (odst k 0).view.dmaCredit

/-- Slot `p` free; tile `k`'s result in flight. -/
def OFree (c : Dev nD) (p : Fin 2) : sProp 𝕄 :=
  iprop(∃ f : S2x8x256x768.Idx → Elt F .f32, OSl c p f ∗ semVal ((c : Thread nD τ), SemLoc.dma (osem p)) 0)
def OFly (k : ℕ) : sProp 𝕄 := iprop(Fl c (osem (par k)) (NO k) (DO v k) 2 0 ∗ ORest v k)

theorem oStart_spec (k : ℕ) (hk : k < 14) (h : Fin 2) :
    iprop(OOld v k h ∗ OGot v k h ∗ Fl c (osem (par k)) (NO k) (DO v k) h.val 0)
      ⊢ W c (oStart k h) fun _ => Fl c (osem (par k)) (NO k) (DO v k) (h.val + 1) 0 := by
  have hD : iprop(((odst k h).view.loc (c : Thread nD τ) ↦[(odst k h).view.set]{fullShare}
      ((odst k h).view.write (Elt F) (v main_v20) (ReadAs.same.apply ((osrc k (par k) h).view.read (Elt F) (OB v k))) Finset.univ))
      ∗ ((osrc k (par k) h).view.loc (c : Thread nD τ) ↦[(osrc k (par k) h).view.set]{fullShare} OB v k))
      ⊢ DO v k h := by
    unfold DO ONew OGot
    refine sep_mono_left (Entails.of_eq ?_)
    exact pointsTo_congr (land_o v k hk (par k) h (v main_v20))
  unfold OOld OGot
  iintro ⟨Hd, Hs, Hb⟩
  iapply (Transfers.wp_dmaBatch (countersEmb (U := Pipeline.UD sig nD τ)) Variants.none (c : Thread nD τ) none () (NO k) rfl
    (Finset.Subset.refl _) h.isLt (Nat.zero_le _) hD) $$ [Hd Hs Hb]
  · isplitl [Hs]; · iexact Hs
    isplitl [Hd]; · iexact Hd
    iexact Hb
  · iintro H
    iapply W_ret
    iexact H

/-- Starting both halves of tile `k`'s result. -/
def oStarts (k : ℕ) : P F PUnit := do oStart k 0; oStart k 1

theorem oStarts_spec (k : ℕ) (hk : k < 14) :
    iprop(OSl c (par k) (OB v k) ∗ semVal ((c : Thread nD τ), SemLoc.dma (osem (par k))) 0 ∗ OTodo v (gst k))
      ⊢ W c (oStarts k) fun _ => iprop(OFly v k ∗ OTodo v (gst k + nv k)) := by
  unfold OFly oStarts
  iintro ⟨Hs, Hsem, Ht⟩
  ihave Hs := (oslab_split v k).1 $$ Hs
  icases Hs with ⟨Hg0, Hg1, Hr⟩
  ihave Ht := (todo_split v k).1 $$ Ht
  icases Ht with ⟨Ho0, Ho1, Ht⟩
  imod (Transfers.batch_alloc' (Lvl := ℕ) (countersEmb (U := Pipeline.UD sig nD τ)) (c : Thread nD τ) () (NO k) (DO v k)
    (sm := SemLoc.dma (osem (par k))) (E := Set.univ)) $$ Hsem with HB
  iapply (W_step (oStart_spec v k hk 0)) $$ [Ho0 Hg0 HB]
  · isplitl [Ho0]; · iexact Ho0
    isplitl [Hg0]; · iexact Hg0
    iexact HB
  iintro HB
  iapply (wp_wand frame _ _) $$ [Ho1 Hg1 HB]
  · iapply (oStart_spec v k hk 1)
    isplitl [Ho1]; · iexact Ho1
    isplitl [Hg1]; · iexact Hg1
    iexact HB
  · iintro %_ HB
    isplitl [HB Hr]
    · isplitl [HB]; · iexact HB
      iexact Hr
    iexact Ht

theorem NO_pos (k : ℕ) : 0 < NO k := by
  have h : 0 < (So (nv k)).numel := by
    have := nv_pos k
    simp [Shape.numel, Fin.prod_univ_three]
    omega
  exact View.dmaCredit_pos _ h

theorem oWaits_spec (k : ℕ) : iprop(OFly v k ∗ ODone v (gst k) ∗ OW c)
    ⊢ W c (oWaits k) fun _ => iprop(OFree c (par k) ∗ ODone v (gst k + nv k) ∗ OW c) := by
  have h2 : ∀ h : Fin 2, (odst k h).view.dmaCredit = NO k := fun _ => rfl
  have hp := NO_pos k
  unfold OFly OW
  iintro ⟨⟨HB, Hr⟩, Hdone, %Ws, HO⟩
  iapply (Transfers.wp_waitBatch (countersEmb (U := Pipeline.UD sig nD τ)) Variants.none (c : Thread nD τ) none () (h2 0)
    (D := DO v k) (u := 0) (by omega)) $$ [HB HO]
  · isplitl [HB]; · iexact HB
    iexact HO
  iintro ⟨HB, HO⟩
  iapply (Transfers.wp_waitBatchLast (countersEmb (U := Pipeline.UD sig nD τ)) Variants.none (c : Thread nD τ) none () (h2 1) hp
    (D := DO v k) (u := 0 + NO k) (by omega)) $$ [HB HO]
  · isplitl [HB]; · iexact HB
    iexact HO
  rw [show bigSep Finset.univ (DO v k) = iprop(DO v k 0 ∗ DO v k 1) from BI.bigSep_fin_two _]
  unfold DO
  iintro ⟨⟨⟨Hn0, Hg0⟩, Hn1, Hg1⟩, Hsem, HO⟩
  iapply W_ret
  unfold OFree
  isplitl [Hg0 Hg1 Hr Hsem]
  · iexists OB v k
    isplitr [Hsem]
    · iapply (oslab_split v k).2
      isplitl [Hg0]; · iexact Hg0
      isplitl [Hg1]; · iexact Hg1
      iexact Hr
    iexact Hsem
  isplitl [Hn0 Hn1 Hdone]
  · iapply (done_split v k).2
    isplitl [Hn0]; · iexact Hn0
    isplitl [Hn1]; · iexact Hn1
    iexact Hdone
  · iexists _
    iexact HO

end Cert.Kernel.Hand

end
-- ==== Proof.ResC.lean ====
module

public import proofs.«01_k».proof.Proof.ResP
public import proofs.«01_k».proof.Proof.ResO

/-! # The computation of one tile -/

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts Facts₀

variable {F : FTy → Type} [FloatOps F]

local notation "𝕄" => MT nD τ sig Unit (Elt F) ℕ (Pipeline.UD sig nD τ) ℕ

variable {c : Dev nD} (v : (b : Ref sig .tc) → Buf (Elt F) ((c : Thread nD τ).loc b))

/-- The scale and the shift of the normalisation, as staged. -/
def GT : sProp 𝕄 :=
  iprop(((gstg.view.loc (c : Thread nD τ)) ↦{fullShare} gA v) ∗ (tstg.view.loc (c : Thread nD τ)) ↦{fullShare} tA v)

theorem xrow_sub (p : Fin 2) (i : Fin 8) :
    (xbuf.access (Rect.unit (s := S2x8x256x1024) ![p.val, i.val, 0, 0] S1x1x256x1024.size (inb_xrow p i))).set ⊆ xslab p := by
  intro j hj
  rw [show (xbuf.access (Rect.unit (s := S2x8x256x1024) ![p.val, i.val, 0, 0] S1x1x256x1024.size (inb_xrow p i))).set
    = (Rect.unit (s := S2x8x256x1024) ![p.val, i.val, 0, 0] S1x1x256x1024.size (inb_xrow p i)).set from View.set_slice_whole _ _,
    Rect.mem_set_unit] at hj
  have h : p.val ≤ (j 0).val ∧ (j 0).val < p.val + 1 := hj 0
  exact Finset.mem_filter.2 ⟨Finset.mem_univ _, by omega⟩

theorem orow_sub (p : Fin 2) (i : Fin 8) :
    (obuf.access (Rect.unit (s := S2x8x256x768) ![p.val, i.val, 0, 0] S1x1x256x768.size (inb_orow p i))).set ⊆ oslab p := by
  intro j hj
  rw [show (obuf.access (Rect.unit (s := S2x8x256x768) ![p.val, i.val, 0, 0] S1x1x256x768.size (inb_orow p i))).set
    = (Rect.unit (s := S2x8x256x768) ![p.val, i.val, 0, 0] S1x1x256x768.size (inb_orow p i)).set from View.set_slice_whole _ _,
    Rect.mem_set_unit] at hj
  have h : p.val ≤ (j 0).val ∧ (j 0).val < p.val + 1 := hj 0
  exact Finset.mem_filter.2 ⟨Finset.mem_univ _, by omega⟩

theorem prow_sub (p : Fin 2) :
    (pbuf.access (Rect.unit (s := S2x256x768) ![p.val, 0, 0] S1x256x768.size (inb_prow p))).set ⊆ pslab p := by
  intro j hj
  rw [show (pbuf.access (Rect.unit (s := S2x256x768) ![p.val, 0, 0] S1x256x768.size (inb_prow p))).set
    = (Rect.unit (s := S2x256x768) ![p.val, 0, 0] S1x256x768.size (inb_prow p)).set from View.set_slice_whole _ _,
    Rect.mem_set_unit] at hj
  have h : p.val ≤ (j 0).val ∧ (j 0).val < p.val + 1 := hj 0
  exact Finset.mem_filter.2 ⟨Finset.mem_univ _, by omega⟩

/-- Batch entry `i` of tile `k`, with the tile's own operands. -/
def entryOf (k : ℕ) (i : Fin 8) : P F PUnit :=
  entry (par k) (addRow (BC v (seg k)) (prow v k)) (shapeCast S1x768 (gA v) shapeCasts_S1x768_S1x768)
    (shapeCast S1x768 (tA v) shapeCasts_S1x768_S1x768) (WC v (seg k)) i

theorem entry_spec (k : ℕ) (i : Fin 8) (f : S2x8x256x768.Idx → Elt F .f32) :
    iprop(XS c (par k) (X v k) ∗ OSl c (par k) (OBn v k f i.val))
      ⊢ W c (entryOf v k i) fun _ => iprop(XS c (par k) (X v k) ∗ OSl c (par k) (OBn v k f (i.val + 1))) := by
  have hs : (OSl c (par k) ((obuf.access (Rect.unit (s := S2x8x256x768) ![(par k).val, i.val, 0, 0] S1x1x256x768.size (inb_orow (par k) i))).write
      (Elt F) (OBn v k f i.val) (orow v k i) Finset.univ) : sProp 𝕄) ⊢ OSl c (par k) (OBn v k f (i.val + 1)) :=
    Entails.of_eq (pointsTo_congr (store_o v k i f))
  unfold OSl at hs
  unfold XS
  iintro ⟨Hx, Ho⟩
  iapply (wp_load_rect Variants.none (c : Thread nD τ) none Set.univ (xrow_sub (par k) i)) $$ Hx
  iintro Hx
  unfold OSl
  iapply (wp_load_rect Variants.none (c : Thread nD τ) none Set.univ (orow_sub (par k) i)) $$ Ho
  iintro Ho
  iapply (wp_store Variants.none (c : Thread nD τ) none Set.univ (orow_sub (par k) i)) $$ Ho
  iintro Ho
  iapply W_ret
  isplitl [Hx]; · iexact Hx
  iapply hs
  iexact Ho

theorem OBn_zero (k : ℕ) (f : S2x8x256x768.Idx → Elt F .f32) : OBn v k f 0 = f := by
  funext i; exact if_neg (Nat.not_lt_zero _)
theorem OBn_eight (k : ℕ) (f : S2x8x256x768.Idx → Elt F .f32) : OBn v k f 8 = OB v k := by
  funext i; exact if_pos (i 1).isLt

/-- All entries of tile `k`. -/
def entries (k : ℕ) : P F PUnit := do
  entryOf v k 0; entryOf v k 1; entryOf v k 2; entryOf v k 3; entryOf v k 4; entryOf v k 5; entryOf v k 6; entryOf v k 7

theorem entries_spec (k : ℕ) (f : S2x8x256x768.Idx → Elt F .f32) :
    iprop(XS c (par k) (X v k) ∗ OSl c (par k) f)
      ⊢ W c (entries v k) fun _ => iprop(XS c (par k) (X v k) ∗ OSl c (par k) (OB v k)) := by
  have h (i : Fin 8) (n m : ℕ) (hn : i.val = n) (hm : m = n + 1) : iprop(XS c (par k) (X v k) ∗ OSl c (par k) (OBn v k f n))
      ⊢ W c (entryOf v k i) fun _ => iprop(XS c (par k) (X v k) ∗ OSl c (par k) (OBn v k f m)) := by
    subst hn hm; exact entry_spec v k i f
  rw [← OBn_eight v k f]
  refine (Entails.of_eq (by rw [← OBn_zero v k f]; rfl) : _ ⊢ iprop(XS c (par k) (X v k) ∗ OSl c (par k) (OBn v k f 0))).trans ?_
  unfold entries
  iintro H
  iapply (W_step (h 0 0 1 rfl rfl)) $$ H
  iintro H
  iapply (W_step (h 1 1 2 rfl rfl)) $$ H
  iintro H
  iapply (W_step (h 2 2 3 rfl rfl)) $$ H
  iintro H
  iapply (W_step (h 3 3 4 rfl rfl)) $$ H
  iintro H
  iapply (W_step (h 4 4 5 rfl rfl)) $$ H
  iintro H
  iapply (W_step (h 5 5 6 rfl rfl)) $$ H
  iintro H
  iapply (W_step (h 6 6 7 rfl rfl)) $$ H
  iintro H
  iapply (h 7 7 8 rfl rfl)
  iexact H

theorem comp_spec (k : ℕ) (f : S2x8x256x768.Idx → Elt F .f32) :
    iprop(XS c (par k) (X v k) ∗ PSl c (par k) (PS v k) ∗ WCur c (WC v (seg k)) (BC v (seg k)) ∗ GT v ∗ OSl c (par k) f)
      ⊢ W c (comp (par k)) fun _ => iprop(XS c (par k) (X v k) ∗ PSl c (par k) (PS v k) ∗ WCur c (WC v (seg k)) (BC v (seg k))
          ∗ GT v ∗ OSl c (par k) (OB v k)) := by
  have z2 : (![0, 0] : Fin 2 → ℕ) = fun _ => 0 := by funext a; fin_cases a <;> rfl
  have e4 : ∀ f, (wcur.access (Rect.unit (s := S1024x768) ![0, 0] S1024x768.size inb_S1024x768_S1024x768_0_0)).read (Elt F) f = f :=
    fun f => Memref.read_access_unit_zero (Elt F) cc0_scratch4 z2 _ f
  have e5 : ∀ f, (bcur.access (Rect.unit (s := S1x768) ![0, 0] S1x768.size inb_S1x768_S1x768_0_0)).read (Elt F) f = f :=
    fun f => Memref.read_access_unit_zero (Elt F) cc0_scratch5 z2 _ f
  have e6 : ∀ f, (gstg.access (Rect.unit (s := S1x768) ![0, 0] S1x768.size inb_S1x768_S1x768_0_0)).read (Elt F) f = f :=
    fun f => Memref.read_access_unit_zero (Elt F) cc0_stg1_0 z2 _ f
  have e7 : ∀ f, (tstg.access (Rect.unit (s := S1x768) ![0, 0] S1x768.size inb_S1x768_S1x768_0_0)).read (Elt F) f = f :=
    fun f => Memref.read_access_unit_zero (Elt F) cc0_stg2_0 z2 _ f
  unfold PSl WCur GT
  iintro ⟨Hx, Hp, ⟨Hw, Hb⟩, ⟨Hg, Ht⟩, Ho⟩
  iapply (wp_load_rect Variants.none (c : Thread nD τ) none Set.univ (m := bcur)
    (r := Rect.unit (s := S1x768) ![0, 0] S1x768.size inb_S1x768_S1x768_0_0) (Finset.subset_univ _)) $$ Hb
  iintro Hb
  iapply (wp_load_rect Variants.none (c : Thread nD τ) none Set.univ (prow_sub (par k))) $$ Hp
  iintro Hp
  iapply (wp_load_rect Variants.none (c : Thread nD τ) none Set.univ (m := gstg)
    (r := Rect.unit (s := S1x768) ![0, 0] S1x768.size inb_S1x768_S1x768_0_0) (Finset.subset_univ _)) $$ Hg
  iintro Hg
  iapply (wp_load_rect Variants.none (c : Thread nD τ) none Set.univ (m := tstg)
    (r := Rect.unit (s := S1x768) ![0, 0] S1x768.size inb_S1x768_S1x768_0_0) (Finset.subset_univ _)) $$ Ht
  iintro Ht
  iapply (wp_load_rect Variants.none (c : Thread nD τ) none Set.univ (m := wcur)
    (r := Rect.unit (s := S1024x768) ![0, 0] S1024x768.size inb_S1024x768_S1024x768_0_0) (Finset.subset_univ _)) $$ Hw
  iintro Hw
  rw [e4, e5, e6, e7]
  iapply (wp_wand frame _ _) $$ [Hx Ho]
  · iapply (entries_spec v k f)
    isplitl [Hx]; · iexact Hx
    iexact Ho
  iintro %_ ⟨Hx, Ho⟩
  isplitl [Hx]; · iexact Hx
  isplitl [Hp]; · iexact Hp
  isplitl [Hw Hb]
  · isplitl [Hw]; · iexact Hw
    iexact Hb
  isplitl [Hg Ht]
  · isplitl [Hg]; · iexact Hg
    iexact Ht
  iexact Ho

end Cert.Kernel.Hand

end
-- ==== Proof.Tile.lean ====
module

public import proofs.«01_k».proof.Proof.ResC

/-! # One tile: from what the core holds before it to what it holds after -/

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts Facts₀

variable {F : FTy → Type} [FloatOps F]

local notation "𝕄" => MT nD τ sig Unit (Elt F) ℕ (Pipeline.UD sig nD τ) ℕ

variable {c : Dev nD} (v : (b : Ref sig .tc) → Buf (Elt F) ((c : Thread nD τ).loc b))

/-! ## Before tile `t` -/

/-- A lane that tile `t` will find in flight, for every tile but before the first and after the last. -/
def XA (t : ℕ) : sProp 𝕄 := if 1 ≤ t ∧ t ≤ 13 then XFly v t else XFree v t
def PA (t : ℕ) : sProp 𝕄 := if 1 ≤ t ∧ t ≤ 13 then PFly v t else PFree v t
/-- The result slot tile `k` will use, before tile `t`. -/
def OL (t k : ℕ) : sProp 𝕄 := if k < 2 ∨ t = 14 then OFree c (par k) else OFly v (k - 2)
/-- The rows written before tile `t`, and those not yet begun. -/
def dn (t : ℕ) : ℕ := if t = 14 then 3232 else gst (t - 2)
def gs (t : ℕ) : ℕ := if t < 14 then gst t else 3232
/-- The first tile of segment `s`. -/
def fs (s : Fin 4) : ℕ := if s.val = 0 then 0 else if s.val = 1 then 4 else if s.val = 2 then 12 else 13
/-- The weights of segment `s` before tile `t` takes them. -/
def WM (t : ℕ) (s : Fin 4) : sProp 𝕄 := if fs s < t then WHere v s else WFly v s
def WA (t : ℕ) : sProp 𝕄 :=
  if t = 0 then bigSep (Finset.univ : Finset (Fin 4)) (WFree v) else bigSep (Finset.univ : Finset (Fin 4)) (WM v t)
/-- The current weights and bias row. -/
def CA (t : ℕ) : sProp 𝕄 :=
  iprop(∃ w b, ⌜t ≠ 0 → w = WC v (seg (t - 1)) ∧ b = BC v (seg (t - 1))⌝ ∗ WCur c w b)

/-- All the core holds before tile `t`. -/
def Φ (t : ℕ) : sProp 𝕄 :=
  iprop(XA v t ∗ XFree v (t + 1) ∗ PA v t ∗ PFree v (t + 1) ∗ OL v t t ∗ OL v t (t + 1) ∗ ODone v (dn t) ∗ OTodo v (gs t)
    ∗ WA v t ∗ CA v t)

/-! ## The phases of a tile -/

theorem gate_true (p : P F PUnit) : gate true p = p := rfl
theorem gate_false (p : P F PUnit) : gate (F := F) false p = .ret ⟨⟩ := rfl

theorem fetchStart_spec (k : ℕ) (hk : k < 14) :
    iprop(XFree v k ∗ PFree v k) ⊢ W c (fetchStart k) fun _ => iprop(XFly v k ∗ PFly v k) := by
  rw [show fetchStart (F := F) k = (xFetch k >>= fun _ => pStart k) from rfl]
  iintro ⟨Hx, Hp⟩
  iapply (W_step (xFetch_spec v k hk)) $$ Hx
  iintro Hx
  iapply (wp_wand frame _ _) $$ [Hp]
  · iapply (pStart_spec v k hk)
    iexact Hp
  iintro %_ Hp
  isplitl [Hx]; · iexact Hx
  iexact Hp

theorem four (Ψ : Fin 4 → sProp 𝕄) : bigSep Finset.univ Ψ = iprop(Ψ 0 ∗ Ψ 1 ∗ Ψ 2 ∗ Ψ 3) := by
  rw [BI.bigSep_eq_bigSepL_of_eq [0, 1, 2, 3] (by decide) (by decide)]; rfl

theorem prologue_spec : iprop(XFree v 0 ∗ PFree v 0 ∗ bigSep (Finset.univ : Finset (Fin 4)) (WFree v))
    ⊢ W c prologue fun _ => iprop(XFly v 0 ∗ PFly v 0 ∗ bigSep (Finset.univ : Finset (Fin 4)) (WFly v)) := by
  rw [four, four]
  iintro ⟨Hx, Hp, H0, H1, H2, H3⟩
  iapply (W_step (wStart_spec v 0)) $$ H0
  iintro H0
  iapply (W_step (wStart_spec v 1)) $$ H1
  iintro H1
  iapply (W_step (wStart_spec v 2)) $$ H2
  iintro H2
  iapply (W_step (wStart_spec v 3)) $$ H3
  iintro H3
  iapply (wp_wand frame _ _) $$ [Hx Hp]
  · iapply (fetchStart_spec v 0 (by decide))
    isplitl [Hx]; · iexact Hx
    iexact Hp
  iintro %_ ⟨Hx, Hp⟩
  isplitl [Hx]; · iexact Hx
  isplitl [Hp]; · iexact Hp
  isplitl [H0]; · iexact H0
  isplitl [H1]; · iexact H1
  isplitl [H2]; · iexact H2
  iexact H3

/-- The first phase: at tile 0 everything is started. -/
theorem g1_spec (t : ℕ) (ht : t < 14) : iprop(XA v t ∗ PA v t ∗ WA v t)
    ⊢ W c (gate (t == 0) prologue) fun _ => iprop(XFly v t ∗ PFly v t ∗ bigSep (Finset.univ : Finset (Fin 4)) (WM v t)) := by
  rcases Nat.eq_zero_or_pos t with rfl | h
  · have e : (WM v 0 : Fin 4 → sProp 𝕄) = WFly v := by funext s; exact if_neg (Nat.not_lt_zero _)
    rw [e]
    exact prologue_spec v
  · rw [show (t == 0) = false from beq_false_of_ne (by omega), gate_false]
    unfold XA PA WA
    rw [if_pos ⟨h, by omega⟩, if_pos ⟨h, by omega⟩, if_neg (by omega)]
    exact W_ret _

/-- The second: the next tile's copies start. -/
theorem g2_spec (t : ℕ) (ht : t < 14) : iprop(XFree v (t + 1) ∗ PFree v (t + 1))
    ⊢ W c (gate (decide (t < 13)) (fetchStart (t + 1))) fun _ => iprop(XA v (t + 1) ∗ PA v (t + 1)) := by
  unfold XA PA
  by_cases h : t < 13
  · rw [decide_eq_true h, gate_true, if_pos ⟨by omega, by omega⟩, if_pos ⟨by omega, by omega⟩]
    exact fetchStart_spec v (t + 1) (by omega)
  · rw [decide_eq_false h, gate_false, if_neg (by omega), if_neg (by omega)]
    exact W_ret _

theorem first_fs : ∀ t < 14, (first t = true → fs (seg t) = t ∧ ∀ s, s ≠ seg t → fs s ≠ t)
    ∧ (first t = false → t ≠ 0 ∧ seg (t - 1) = seg t ∧ ∀ s, fs s ≠ t) := by decide

/-- The third: at the first tile of a segment its weights become the current ones. -/
theorem g3_spec (t : ℕ) (ht : t < 14) : iprop(bigSep (Finset.univ : Finset (Fin 4)) (WM v t) ∗ CA v t ∗ BAll v ∗ OW c)
    ⊢ W c (gate (first t) (wLoad (seg t))) fun _ => iprop(bigSep (Finset.univ : Finset (Fin 4)) (WM v (t + 1))
        ∗ WCur c (WC v (seg t)) (BC v (seg t)) ∗ BAll v ∗ OW c) := by
  obtain ⟨h1, h2⟩ := first_fs t ht
  have hsame : ∀ s, fs s ≠ t → (WM v t s : sProp 𝕄) = WM v (t + 1) s := by
    intro s hs
    unfold WM
    by_cases h : fs s < t
    · rw [if_pos h, if_pos (by omega)]
    · rw [if_neg h, if_neg (by omega)]
  cases hf : first t
  · obtain ⟨h0, hseg, hs⟩ := h2 hf
    rw [gate_false, show (WM v t : Fin 4 → sProp 𝕄) = WM v (t + 1) from funext fun s => hsame s (hs s)]
    unfold CA
    iintro ⟨HW, ⟨%w, %b, %hwb, HC⟩, HB, HO⟩
    obtain ⟨rfl, rfl⟩ := hwb h0
    rw [hseg]
    iapply W_ret
    isplitl [HW]; · iexact HW
    isplitl [HC]; · iexact HC
    isplitl [HB]; · iexact HB
    iexact HO
  · obtain ⟨h0, hs⟩ := h1 hf
    have ea : bigSep (Finset.univ : Finset (Fin 4)) (WM v t) = iprop(WFly v (seg t) ∗ bigSep ((Finset.univ : Finset (Fin 4)).erase (seg t)) (WM v (t + 1)) : sProp 𝕄) := by
      refine (BI.bigSep_erase (Finset.mem_univ (seg t))).trans ?_
      rw [show (WM v t (seg t) : sProp 𝕄) = WFly v (seg t) from if_neg (by omega)]
      exact congrArg _ (BI.bigSep_congr fun s hm => hsame s (hs s (Finset.ne_of_mem_erase hm)))
    have eb : bigSep (Finset.univ : Finset (Fin 4)) (WM v (t + 1)) = iprop(WHere v (seg t) ∗ bigSep ((Finset.univ : Finset (Fin 4)).erase (seg t)) (WM v (t + 1)) : sProp 𝕄) := by
      refine (BI.bigSep_erase (Finset.mem_univ (seg t))).trans ?_
      rw [show (WM v (t + 1) (seg t) : sProp 𝕄) = WHere v (seg t) from if_pos (by omega)]
      rfl
    rw [gate_true, ea, eb]
    unfold CA
    iintro ⟨⟨HF, HW⟩, ⟨%w, %b, -, HC⟩, HB, HO⟩
    iapply (wp_wand frame _ _) $$ [HF HO HC HB]
    · iapply (wLoad_spec v (seg t) w b)
      isplitl [HF]; · iexact HF
      isplitl [HO]; · iexact HO
      isplitl [HC]; · iexact HC
      iexact HB
    iintro %_ ⟨HF, HO, HC, HB⟩
    isplitl [HF HW]
    · isplitl [HF]; · iexact HF
      iexact HW
    isplitl [HC]; · iexact HC
    isplitl [HB]; · iexact HB
    iexact HO

theorem par_sub_two {t : ℕ} (h : 2 ≤ t) : par (t - 2) = par t := by
  rw [← par_add_two (t - 2), Nat.sub_add_cancel h]
theorem gst_next {t : ℕ} (h : t < 13) : gst t + nv t = gst (t + 1) := by
  unfold gst nv; split_ifs <;> omega

/-- The fourth: the result slot is cleared of the tile before last. -/
theorem g4_spec (t : ℕ) (ht : t < 14) : iprop(OL v t t ∗ ODone v (dn t) ∗ OW c)
    ⊢ W c (gate (decide (2 ≤ t)) (oWaits (t - 2))) fun _ => iprop(OFree c (par t) ∗ ODone v (gst (t - 1)) ∗ OW c) := by
  have hd : dn t = gst (t - 2) := if_neg (by omega)
  unfold OL
  rw [hd]
  by_cases h : 2 ≤ t
  · have hg : gst (t - 1) = gst (t - 2) + nv (t - 2) := by
      rw [gst_next (by omega), show t - 2 + 1 = t - 1 by omega]
    rw [decide_eq_true h, gate_true, if_neg (by omega), hg, ← par_sub_two h]
    exact oWaits_spec v (t - 2)
  · rw [decide_eq_false h, gate_false, if_pos (by omega), show t - 2 = t - 1 - 1 by omega, show t - 1 = 0 by omega]
    exact W_ret _

/-- The last: after the last tile both slots are cleared. -/
theorem g5_spec (t : ℕ) (ht : t < 14) : iprop(OFly v t ∗ OL v t (t + 1) ∗ ODone v (gst (t - 1)) ∗ OW c)
    ⊢ W c (gate (t == 13) (do oWaits 12; oWaits 13)) fun _ => iprop(OL v (t + 1) (t + 1) ∗ OL v (t + 1) (t + 2)
        ∗ ODone v (dn (t + 1)) ∗ OW c) := by
  unfold OL
  by_cases h : t = 13
  · subst h
    rw [show dn (13 + 1) = gst 13 + nv 13 from rfl, if_neg (by decide), if_pos (by decide), if_pos (by decide)]
    iintro ⟨H1, H0, Hd, HO⟩
    iapply (W_step (oWaits_spec v 12)) $$ [H0 Hd HO]
    · isplitl [H0]; · iexact H0
      isplitl [Hd]; · iexact Hd
      iexact HO
    iintro ⟨H0, Hd, HO⟩
    iapply (wp_wand frame _ _) $$ [H1 Hd HO]
    · iapply (oWaits_spec v 13)
      isplitl [H1]; · iexact H1
      isplitl [Hd]; · iexact Hd
      iexact HO
    iintro %_ ⟨H1, Hd, HO⟩
    isplitl [H0]; · iexact H0
    isplitl [H1]; · iexact H1
    isplitl [Hd]; · iexact Hd
    iexact HO
  · rw [show (t == 13) = false from beq_false_of_ne h, gate_false, show dn (t + 1) = gst (t - 1) from if_neg (by omega),
      if_neg (show ¬ (t + 2 < 2 ∨ t + 1 = 14) by omega), Nat.add_sub_cancel]
    have e : (if t + 1 < 2 ∨ t = 14 then OFree c (par (t + 1)) else OFly v (t + 1 - 2) : sProp 𝕄)
        = if t + 1 < 2 ∨ t + 1 = 14 then OFree c (par (t + 1)) else OFly v (t + 1 - 2) := by
      by_cases h2 : t + 1 < 2
      · rw [if_pos (.inl h2), if_pos (.inl h2)]
      · rw [if_neg (by omega), if_neg (by omega)]
    rw [← e]
    iintro ⟨H1, H0, H⟩
    iapply W_ret
    isplitl [H0]; · iexact H0
    isplitl [H1]; · iexact H1
    iexact H

theorem step_phases (t : ℕ) : step (F := F) t = (do
    gate (t == 0) prologue
    gate (decide (t < 13)) (fetchStart (t + 1))
    gate (first t) (wLoad (seg t))
    xWaits t
    pWait t
    gate (decide (2 ≤ t)) (oWaits (t - 2))
    comp (par t)
    oStarts t
    gate (t == 13) (do oWaits 12; oWaits 13)) := rfl

/-- One tile. -/
theorem step_spec (t : ℕ) (ht : t < 14) : iprop(Φ v t ∗ BAll v ∗ GT v ∗ OW c)
    ⊢ W c (step t) fun _ => iprop(Φ v (t + 1) ∗ BAll v ∗ GT v ∗ OW c) := by
  have hgs : gs t = gst t := if_pos ht
  have hgs' : gs (t + 1) = gst t + nv t := by
    unfold gs
    by_cases h : t < 13
    · rw [if_pos (by omega), gst_next h]
    · rw [if_neg (by omega), show t = 13 by omega]; rfl
  rw [step_phases]
  unfold Φ
  rw [hgs, hgs']
  iintro ⟨⟨HX, HX', HP, HP', HO0, HO1, Hd, Ht, HW, HC⟩, HB, HG, HO⟩
  iapply (W_step (g1_spec v t ht)) $$ [HX HP HW]
  · isplitl [HX]; · iexact HX
    isplitl [HP]; · iexact HP
    iexact HW
  iintro ⟨HX, HP, HW⟩
  iapply (W_step (g2_spec v t ht)) $$ [HX' HP']
  · isplitl [HX']; · iexact HX'
    iexact HP'
  iintro ⟨HX', HP'⟩
  iapply (W_step (g3_spec v t ht)) $$ [HW HC HB HO]
  · isplitl [HW]; · iexact HW
    isplitl [HC]; · iexact HC
    isplitl [HB]; · iexact HB
    iexact HO
  iintro ⟨HW, HC, HB, HO⟩
  iapply (W_step (xWaits_spec v t)) $$ [HX HO]
  · isplitl [HX]; · iexact HX
    iexact HO
  iintro ⟨HX, HO⟩
  iapply (W_step (pWait_spec v t)) $$ [HP HO]
  · isplitl [HP]; · iexact HP
    iexact HO
  iintro ⟨HP, HO⟩
  iapply (W_step (g4_spec v t ht)) $$ [HO0 Hd HO]
  · isplitl [HO0]; · iexact HO0
    isplitl [Hd]; · iexact Hd
    iexact HO
  unfold OFree XHere PHere
  iintro ⟨⟨%f, HO0, Hsem⟩, Hd, HO⟩
  icases HX with ⟨HX, HXr⟩
  icases HP with ⟨HP, HPr⟩
  iapply (W_step (comp_spec v t f)) $$ [HX HP HC HG HO0]
  · isplitl [HX]; · iexact HX
    isplitl [HP]; · iexact HP
    isplitl [HC]; · iexact HC
    isplitl [HG]; · iexact HG
    iexact HO0
  iintro ⟨HX, HP, HC, HG, HO0⟩
  iapply (W_step (oStarts_spec v t ht)) $$ [HO0 Hsem Ht]
  · isplitl [HO0]; · iexact HO0
    isplitl [Hsem]; · iexact Hsem
    iexact Ht
  iintro ⟨HF, Ht⟩
  iapply (wp_wand frame _ _) $$ [HF HO1 Hd HO]
  · iapply (g5_spec v t ht)
    isplitl [HF]; · iexact HF
    isplitl [HO1]; · iexact HO1
    isplitl [Hd]; · iexact Hd
    iexact HO
  iintro %_ ⟨HO0, HO1, Hd, HO⟩
  isplitr [HB HG HO]
  · isplitl [HX']; · iexact HX'
    isplitl [HX HXr]
    · iapply (xhere_free v t)
      unfold XHere
      isplitl [HX]; · iexact HX
      iexact HXr
    isplitl [HP']; · iexact HP'
    isplitl [HP HPr]
    · iapply (phere_free v t)
      unfold PHere
      isplitl [HP]; · iexact HP
      iexact HPr
    isplitl [HO0]; · iexact HO0
    isplitl [HO1]; · iexact HO1
    isplitl [Hd]; · iexact Hd
    isplitl [Ht]; · iexact Ht
    isplitl [HW]
    · unfold WA
      rw [if_neg (by omega)]
      iexact HW
    unfold CA
    iexists _, _
    isplitr [HC]
    · ipureintro
      intro _
      exact ⟨rfl, rfl⟩
    · iexact HC
  isplitl [HB]; · iexact HB
  isplitl [HG]; · iexact HG
  iexact HO

end Cert.Kernel.Hand

end
-- ==== Proof.Ends.lean ====
module

public import proofs.«01_k».proof.Proof.Tile

/-! # Before the first tile and after the last -/

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts Facts₀

variable {F : FTy → Type} [FloatOps F]

local notation "𝕄" => MT nD τ sig Unit (Elt F) ℕ (Pipeline.UD sig nD τ) ℕ

variable {c : Dev nD} (v : (b : Ref sig .tc) → Buf (Elt F) ((c : Thread nD τ).loc b))

/-! ## Buffers in parts -/

/-- A buffer at some contents is two parts of it at some contents each. -/
theorem ex_split {ℓ : Loc nD τ sig} {S I J : Finset (Idx ℓ)} (hu : S = I ∪ J) (hd : Disjoint I J) :
    (iprop(∃ f : Buf (Elt F) ℓ, ℓ ↦[S]{fullShare} f) : sProp 𝕄)
      ⊣⊢ iprop((∃ f : Buf (Elt F) ℓ, ℓ ↦[I]{fullShare} f) ∗ (∃ f : Buf (Elt F) ℓ, ℓ ↦[J]{fullShare} f)) := by
  subst hu
  constructor
  · iintro ⟨%f, H⟩
    have h : (ℓ ↦[I ∪ J]{fullShare} f : sProp 𝕄) ⊣⊢ _ := pointsTo_union hd
    ihave H := h.1 $$ H
    icases H with ⟨H1, H2⟩
    isplitl [H1]
    · iexists f; iexact H1
    · iexists f; iexact H2
  · iintro ⟨⟨%f, H1⟩, %g, H2⟩
    have h : (iprop((ℓ ↦[I]{fullShare} f) ∗ ℓ ↦[J]{fullShare} g) : sProp 𝕄) ⊢ ℓ ↦[I ∪ J]{fullShare} (J.piecewise g f) :=
      pointsTo_join hd
    iexists (J.piecewise g f)
    iapply h
    isplitl [H1]; · iexact H1
    iexact H2

/-- A points-to at a share is one at each half of it. -/
theorem halves {ℓ : Loc nD τ sig} (q : PosShare TreeShare) (f : Buf (Elt F) ℓ) :
    (ℓ ↦{q} f : sProp 𝕄) ⊣⊢ iprop((ℓ ↦{q.left} f) ∗ ℓ ↦{q.right} f) :=
  pointsTo_share (PosShare.mem_left_op_right q)

/-- Some contents, in each of the buffers' slots. -/
def AX (c : Dev nD) (p : Fin 2) : sProp 𝕄 := iprop(∃ f, XS c p f)
def AO (c : Dev nD) (p : Fin 2) : sProp 𝕄 := iprop(∃ f, OSl c p f)
def AP (c : Dev nD) (p : Fin 2) : sProp 𝕄 := iprop(∃ f, PSl c p f)
def AW (c : Dev nD) (s : Fin 4) : sProp 𝕄 := iprop(∃ f, WSl c s f)

theorem ax_split : (iprop(∃ f : Buf (Elt F) ((c : Thread nD τ).loc cc0_scratch0), ((c : Thread nD τ).loc cc0_scratch0) ↦{fullShare} f) : sProp 𝕄)
    ⊣⊢ iprop(AX c 0 ∗ AX c 1) := by
  refine ex_split (ℓ := xbuf.view.loc (c : Thread nD τ)) (I := xslab 0) (J := xslab 1) ?_ ?_
  · ext (i : S2x8x256x1024.Idx)
    have h : (i 0).val < 2 := (i 0).isLt
    simp only [xslab, Finset.mem_union, Finset.mem_filter, Finset.mem_univ, true_and, Fin.val_zero, Fin.val_one]
    have hn : ∀ n < 2, n = 0 ∨ n = 1 := by intro n; omega
    exact iff_of_true trivial (hn _ h)
  · rw [Finset.disjoint_left]
    intro (i : S2x8x256x1024.Idx) h0 h1
    have a : (i 0).val = 0 := (Finset.mem_filter.1 h0).2
    have b : (i 0).val = 1 := (Finset.mem_filter.1 h1).2
    omega

theorem ao_split : (iprop(∃ f : Buf (Elt F) ((c : Thread nD τ).loc cc0_scratch1), ((c : Thread nD τ).loc cc0_scratch1) ↦{fullShare} f) : sProp 𝕄)
    ⊣⊢ iprop(AO c 0 ∗ AO c 1) := by
  refine ex_split (ℓ := obuf.view.loc (c : Thread nD τ)) (I := oslab 0) (J := oslab 1) ?_ ?_
  · ext (i : S2x8x256x768.Idx)
    have h : (i 0).val < 2 := (i 0).isLt
    simp only [oslab, Finset.mem_union, Finset.mem_filter, Finset.mem_univ, true_and, Fin.val_zero, Fin.val_one]
    have hn : ∀ n < 2, n = 0 ∨ n = 1 := by intro n; omega
    exact iff_of_true trivial (hn _ h)
  · rw [Finset.disjoint_left]
    intro (i : S2x8x256x768.Idx) h0 h1
    have a : (i 0).val = 0 := (Finset.mem_filter.1 h0).2
    have b : (i 0).val = 1 := (Finset.mem_filter.1 h1).2
    omega

theorem ap_split : (iprop(∃ f : Buf (Elt F) ((c : Thread nD τ).loc cc0_scratch2), ((c : Thread nD τ).loc cc0_scratch2) ↦{fullShare} f) : sProp 𝕄)
    ⊣⊢ iprop(AP c 0 ∗ AP c 1) := by
  refine ex_split (ℓ := pbuf.view.loc (c : Thread nD τ)) (I := pslab 0) (J := pslab 1) ?_ ?_
  · ext (i : S2x256x768.Idx)
    have h : (i 0).val < 2 := (i 0).isLt
    simp only [pslab, Finset.mem_union, Finset.mem_filter, Finset.mem_univ, true_and, Fin.val_zero, Fin.val_one]
    have hn : ∀ n < 2, n = 0 ∨ n = 1 := by intro n; omega
    exact iff_of_true trivial (hn _ h)
  · rw [Finset.disjoint_left]
    intro (i : S2x256x768.Idx) h0 h1
    have a : (i 0).val = 0 := (Finset.mem_filter.1 h0).2
    have b : (i 0).val = 1 := (Finset.mem_filter.1 h1).2
    omega

theorem wslab_disj {s s' : Fin 4} (h : s ≠ s') : Disjoint (wslab s) (wslab s') := by
  rw [Finset.disjoint_left]
  intro i h0 h1
  exact h (Fin.ext (((Finset.mem_filter.1 h0).2).symm.trans (Finset.mem_filter.1 h1).2))

theorem aw_split : (iprop(∃ f : Buf (Elt F) ((c : Thread nD τ).loc cc0_scratch3), ((c : Thread nD τ).loc cc0_scratch3) ↦{fullShare} f) : sProp 𝕄)
    ⊣⊢ iprop(AW c 0 ∗ AW c 1 ∗ AW c 2 ∗ AW c 3) := by
  have hu : (Finset.univ : Finset S4x1024x768.Idx) = wslab 0 ∪ (wslab 1 ∪ (wslab 2 ∪ wslab 3)) := by
    ext i
    have h : (i 0).val < 4 := (i 0).isLt
    simp only [wslab, Finset.mem_union, Finset.mem_filter, Finset.mem_univ, true_and]
    have hn : ∀ n < 4, n = 0 ∨ n = 1 ∨ n = 2 ∨ n = 3 := by intro n; omega
    exact iff_of_true trivial (hn _ h)
  have d0 : Disjoint (wslab 0) (wslab 1 ∪ (wslab 2 ∪ wslab 3)) :=
    Finset.disjoint_union_right.2 ⟨wslab_disj (by decide), Finset.disjoint_union_right.2 ⟨wslab_disj (by decide), wslab_disj (by decide)⟩⟩
  have d1 : Disjoint (wslab 1) (wslab 2 ∪ wslab 3) := Finset.disjoint_union_right.2 ⟨wslab_disj (by decide), wslab_disj (by decide)⟩
  have d2 : Disjoint (wslab 2) (wslab 3) := wslab_disj (by decide)
  have h0 := ex_split (F := F) (ℓ := wbuf.view.loc (c : Thread nD τ)) hu d0
  have h1 := ex_split (F := F) (ℓ := wbuf.view.loc (c : Thread nD τ)) rfl d1
  have h2 := ex_split (F := F) (ℓ := wbuf.view.loc (c : Thread nD τ)) rfl d2
  unfold AW WSl
  constructor
  · iintro H
    ihave H := h0.1 $$ H
    icases H with ⟨H0, H⟩
    ihave H := h1.1 $$ H
    icases H with ⟨H1, H⟩
    ihave H := h2.1 $$ H
    icases H with ⟨H2, H3⟩
    isplitl [H0]; · iexact H0
    isplitl [H1]; · iexact H1
    isplitl [H2]; · iexact H2
    iexact H3
  · iintro ⟨H0, H1, H2, H3⟩
    iapply h0.2
    isplitl [H0]; · iexact H0
    iapply h1.2
    isplitl [H1]; · iexact H1
    iapply h2.2
    isplitl [H2]; · iexact H2
    iexact H3

/-! ## Inputs in shares -/

/-- The four segments' rows, whole. -/
def XIn : sProp 𝕄 :=
  bigSep (Finset.univ : Finset (Fin 4)) fun s => ((xin s).view.loc (c : Thread nD τ)) ↦{fullShare} v (xin s).view.ref

theorem xin_split : XIn v ⊣⊢ iprop((XHome v 0 0 ∗ XHome v 0 1) ∗ XHome v 1 0 ∗ XHome v 1 1) := by
  have h : ∀ s : Fin 4, ((((xin s).view.loc (c : Thread nD τ)) ↦{fullShare} v (xin s).view.ref : sProp 𝕄))
      ⊣⊢ iprop(((((xin s).view.loc (c : Thread nD τ)) ↦{qh 0 0} v (xin s).view.ref) ∗ (((xin s).view.loc (c : Thread nD τ)) ↦{qh 0 1} v (xin s).view.ref))
        ∗ (((xin s).view.loc (c : Thread nD τ)) ↦{qh 1 0} v (xin s).view.ref) ∗ (((xin s).view.loc (c : Thread nD τ)) ↦{qh 1 1} v (xin s).view.ref)) := by
    intro s
    have a := halves (F := F) (ℓ := (xin s).view.loc (c : Thread nD τ)) fullShare (v (xin s).view.ref)
    have b := halves (F := F) (ℓ := (xin s).view.loc (c : Thread nD τ)) fullShare.left (v (xin s).view.ref)
    have d := halves (F := F) (ℓ := (xin s).view.loc (c : Thread nD τ)) fullShare.right (v (xin s).view.ref)
    constructor
    · iintro H
      ihave H := a.1 $$ H
      icases H with ⟨H0, H1⟩
      isplitl [H0]
      · iapply b.1; iexact H0
      · iapply d.1; iexact H1
    · iintro ⟨H0, H1⟩
      iapply a.2
      isplitl [H0]
      · iapply b.2; iexact H0
      · iapply d.2; iexact H1
  unfold XIn XHome
  simp only [four]
  constructor
  · iintro ⟨H0, H1, H2, H3⟩
    ihave H0 := (h 0).1 $$ H0
    ihave H1 := (h 1).1 $$ H1
    ihave H2 := (h 2).1 $$ H2
    ihave H3 := (h 3).1 $$ H3
    icases H0 with ⟨⟨A0, B0⟩, C0, D0⟩
    icases H1 with ⟨⟨A1, B1⟩, C1, D1⟩
    icases H2 with ⟨⟨A2, B2⟩, C2, D2⟩
    icases H3 with ⟨⟨A3, B3⟩, C3, D3⟩
    isplitl [A0 A1 A2 A3 B0 B1 B2 B3]
    · isplitl [A0 A1 A2 A3]
      · isplitl [A0]; · iexact A0
        isplitl [A1]; · iexact A1
        isplitl [A2]; · iexact A2
        iexact A3
      · isplitl [B0]; · iexact B0
        isplitl [B1]; · iexact B1
        isplitl [B2]; · iexact B2
        iexact B3
    · isplitl [C0 C1 C2 C3]
      · isplitl [C0]; · iexact C0
        isplitl [C1]; · iexact C1
        isplitl [C2]; · iexact C2
        iexact C3
      · isplitl [D0]; · iexact D0
        isplitl [D1]; · iexact D1
        isplitl [D2]; · iexact D2
        iexact D3
  · iintro ⟨⟨⟨A0, A1, A2, A3⟩, B0, B1, B2, B3⟩, ⟨C0, C1, C2, C3⟩, D0, D1, D2, D3⟩
    isplitl [A0 B0 C0 D0]
    · iapply (h 0).2
      isplitl [A0 B0]
      · isplitl [A0]; · iexact A0
        iexact B0
      · isplitl [C0]; · iexact C0
        iexact D0
    isplitl [A1 B1 C1 D1]
    · iapply (h 1).2
      isplitl [A1 B1]
      · isplitl [A1]; · iexact A1
        iexact B1
      · isplitl [C1]; · iexact C1
        iexact D1
    isplitl [A2 B2 C2 D2]
    · iapply (h 2).2
      isplitl [A2 B2]
      · isplitl [A2]; · iexact A2
        iexact B2
      · isplitl [C2]; · iexact C2
        iexact D2
    iapply (h 3).2
    isplitl [A3 B3]
    · isplitl [A3]; · iexact A3
      iexact B3
    · isplitl [C3]; · iexact C3
      iexact D3

/-! ## Before the first tile and after the last -/

/-- A semaphore at zero. -/
abbrev Z (c : Dev nD) (s : DmaSem sig) : sProp 𝕄 := semVal ((c : Thread nD τ), SemLoc.dma s) 0

/-- The scratch at some contents, the copies' semaphores at zero, and the inputs whole. -/
def Kept : sProp 𝕄 :=
  iprop(((AX c 0 ∗ AX c 1) ∗ (AO c 0 ∗ AO c 1) ∗ (AP c 0 ∗ AP c 1) ∗ (AW c 0 ∗ AW c 1 ∗ AW c 2 ∗ AW c 3) ∗ ∃ w b, WCur c w b)
    ∗ (Z c (xsem 0) ∗ Z c (xsem 1) ∗ Z c (psem 0) ∗ Z c (psem 1) ∗ Z c (osem 0) ∗ Z c (osem 1)
      ∗ Z c (wsem 0) ∗ Z c (wsem 1) ∗ Z c (wsem 2) ∗ Z c (wsem 3))
    ∗ ((XHome v 0 0 ∗ XHome v 0 1) ∗ XHome v 1 0 ∗ XHome v 1 1) ∗ (WGot v 0 ∗ WGot v 1 ∗ WGot v 2 ∗ WGot v 3)
    ∗ PHome v 0 ∗ PHome v 1)

theorem done_zero : (ODone v 0 = (iprop(emp) : sProp 𝕄)) := by
  unfold ODone
  rw [show odone 0 = ∅ from Finset.filter_eq_empty_iff.2 fun i _ => Nat.not_lt_zero _]
  exact pointsTo_empty

theorem todo_end : (OTodo v 3232 = (iprop(emp) : sProp 𝕄)) := by
  unfold OTodo
  rw [show otodo 3232 = ∅ from Finset.filter_eq_empty_iff.2 fun i _ => Nat.not_le.2 (i 1).isLt]
  exact pointsTo_empty

theorem todo_zero : (OTodo v 0 : sProp 𝕄) = iprop(((c : Thread nD τ).loc main_v20) ↦{fullShare} v main_v20) := by
  unfold OTodo
  rw [show otodo 0 = Finset.univ from Finset.filter_true_of_mem fun i _ => Nat.zero_le _]

theorem done_end : (ODone v 3232 : sProp 𝕄) = iprop(((c : Thread nD τ).loc main_v20) ↦{fullShare} OUT v) := by
  unfold ODone
  rw [show odone 3232 = Finset.univ from Finset.filter_true_of_mem fun i _ => (i 1).isLt]

/-- The four weights' buffers hold their segment before the first tile and after the last. -/
theorem wfree_of (s : Fin 4) : iprop(AW c s ∗ Z c (wsem s) ∗ WGot v s) ⊢ WFree v s := by
  unfold AW WFree
  iintro ⟨⟨%f, H⟩, Hz, Hw⟩
  iexists f
  isplitl [H]; · iexact H
  isplitl [Hz]; · iexact Hz
  iexact Hw

theorem of_where (s : Fin 4) : WM v 14 s ⊢ iprop(AW c s ∗ Z c (wsem s) ∗ WGot v s) := by
  unfold WM
  rw [if_pos (by revert s; decide)]
  unfold AW WHere
  iintro ⟨H, Hz, Hw⟩
  isplitl [H]; · iexists WB v; iexact H
  isplitl [Hz]; · iexact Hz
  iexact Hw

theorem xfree_of (k : ℕ) (hk : k < 12) : iprop(AX c (par k) ∗ Z c (xsem (par k)) ∗ XHome v (par k) 0 ∗ XHome v (par k) 1) ⊢ XFree v k := by
  unfold AX XFree
  iintro ⟨⟨%f, H⟩, Hr⟩
  iexists f
  isplitr; · ipureintro; intro h; omega
  isplitl [H]; · iexact H
  iexact Hr

theorem of_xfree (k : ℕ) : XFree v k ⊢ iprop(AX c (par k) ∗ Z c (xsem (par k)) ∗ XHome v (par k) 0 ∗ XHome v (par k) 1) := by
  unfold AX XFree
  iintro ⟨%f, -, H, Hr⟩
  isplitl [H]; · iexists f; iexact H
  iexact Hr

theorem pfree_of (k : ℕ) (hk : k < 12) : iprop(AP c (par k) ∗ Z c (psem (par k)) ∗ PHome v (par k)) ⊢ PFree v k := by
  unfold AP PFree
  iintro ⟨⟨%f, H⟩, Hr⟩
  iexists f
  isplitr; · ipureintro; intro h; omega
  isplitl [H]; · iexact H
  iexact Hr

theorem of_pfree (k : ℕ) : PFree v k ⊢ iprop(AP c (par k) ∗ Z c (psem (par k)) ∗ PHome v (par k)) := by
  unfold AP PFree
  iintro ⟨%f, -, H, Hr⟩
  isplitl [H]; · iexists f; iexact H
  iexact Hr

theorem ofree_of (p : Fin 2) : iprop(AO (F := F) c p ∗ Z c (osem p)) ⊢ OFree c p := by
  unfold AO OFree
  iintro ⟨⟨%f, H⟩, Hr⟩
  iexists f
  isplitl [H]; · iexact H
  iexact Hr

theorem of_ofree (p : Fin 2) : OFree (F := F) c p ⊢ iprop(AO c p ∗ Z c (osem p)) := by
  unfold AO OFree
  iintro ⟨%f, H, Hr⟩
  isplitl [H]; · iexists f; iexact H
  iexact Hr

theorem enter : iprop(Kept v ∗ ((c : Thread nD τ).loc main_v20) ↦{fullShare} v main_v20) ⊢ Φ v 0 := by
  have hx0 : _ ⊢ XFree v 0 := xfree_of v 0 (by decide)
  have hx1 : _ ⊢ XFree v (0 + 1) := xfree_of v 1 (by decide)
  have hp0 : _ ⊢ PFree v 0 := pfree_of v 0 (by decide)
  have hp1 : _ ⊢ PFree v (0 + 1) := pfree_of v 1 (by decide)
  have ho0 : _ ⊢ OL v 0 0 := ofree_of (F := F) (c := c) 0
  have ho1 : _ ⊢ OL v 0 (0 + 1) := ofree_of (F := F) (c := c) 1
  rw [show Φ v 0 = iprop(XFree v 0 ∗ XFree v (0 + 1) ∗ PFree v 0 ∗ PFree v (0 + 1) ∗ OL v 0 0 ∗ OL v 0 (0 + 1) ∗ ODone v 0 ∗ OTodo v 0
    ∗ bigSep (Finset.univ : Finset (Fin 4)) (WFree v) ∗ CA v 0) from rfl]
  rw [done_zero, todo_zero, four]
  unfold Kept
  iintro ⟨⟨⟨⟨X0, X1⟩, ⟨O0, O1⟩, ⟨P0, P1⟩, ⟨W0, W1, W2, W3⟩, %w, %b, Hc⟩, ⟨x0, x1, p0, p1, o0, o1, w0, w1, w2, w3⟩,
    ⟨Hx0, Hx1⟩, ⟨G0, G1, G2, G3⟩, Hp0, Hp1⟩, HO⟩
  isplitl [X0 x0 Hx0]
  · iapply hx0
    isplitl [X0]; · iexact X0
    isplitl [x0]; · iexact x0
    iexact Hx0
  isplitl [X1 x1 Hx1]
  · iapply hx1
    isplitl [X1]; · iexact X1
    isplitl [x1]; · iexact x1
    iexact Hx1
  isplitl [P0 p0 Hp0]
  · iapply hp0
    isplitl [P0]; · iexact P0
    isplitl [p0]; · iexact p0
    iexact Hp0
  isplitl [P1 p1 Hp1]
  · iapply hp1
    isplitl [P1]; · iexact P1
    isplitl [p1]; · iexact p1
    iexact Hp1
  isplitl [O0 o0]
  · iapply ho0
    isplitl [O0]; · iexact O0
    iexact o0
  isplitl [O1 o1]
  · iapply ho1
    isplitl [O1]; · iexact O1
    iexact o1
  isplitr; · iempintro
  isplitl [HO]; · iexact HO
  isplitl [W0 W1 W2 W3 w0 w1 w2 w3 G0 G1 G2 G3]
  · isplitl [W0 w0 G0]
    · iapply (wfree_of v 0)
      isplitl [W0]; · iexact W0
      isplitl [w0]; · iexact w0
      iexact G0
    isplitl [W1 w1 G1]
    · iapply (wfree_of v 1)
      isplitl [W1]; · iexact W1
      isplitl [w1]; · iexact w1
      iexact G1
    isplitl [W2 w2 G2]
    · iapply (wfree_of v 2)
      isplitl [W2]; · iexact W2
      isplitl [w2]; · iexact w2
      iexact G2
    iapply (wfree_of v 3)
    isplitl [W3]; · iexact W3
    isplitl [w3]; · iexact w3
    iexact G3
  unfold CA
  iexists w, b
  isplitr; · ipureintro; intro h; exact absurd rfl h
  iexact Hc

theorem leave : Φ v 14 ⊢ iprop(Kept v ∗ ((c : Thread nD τ).loc main_v20) ↦{fullShare} OUT v) := by
  have hx0 : XFree v 14 ⊢ iprop(AX c 0 ∗ Z c (xsem 0) ∗ XHome v 0 0 ∗ XHome v 0 1) := of_xfree v 14
  have hx1 : XFree v (14 + 1) ⊢ iprop(AX c 1 ∗ Z c (xsem 1) ∗ XHome v 1 0 ∗ XHome v 1 1) := of_xfree v 15
  have hp0 : PFree v 14 ⊢ iprop(AP c 0 ∗ Z c (psem 0) ∗ PHome v 0) := of_pfree v 14
  have hp1 : PFree v (14 + 1) ⊢ iprop(AP c 1 ∗ Z c (psem 1) ∗ PHome v 1) := of_pfree v 15
  have ho0 : OFree (F := F) c 0 ⊢ _ := of_ofree 0
  have ho1 : OFree (F := F) c 1 ⊢ _ := of_ofree 1
  rw [show Φ v 14 = iprop(XFree v 14 ∗ XFree v (14 + 1) ∗ PFree v 14 ∗ PFree v (14 + 1) ∗ OFree c 0 ∗ OFree c 1 ∗ ODone v 3232 ∗ OTodo v 3232
    ∗ bigSep (Finset.univ : Finset (Fin 4)) (WM v 14) ∗ CA v 14) from rfl]
  rw [todo_end, done_end, four]
  unfold Kept CA
  iintro ⟨X0, X1, P0, P1, O0, O1, HO, -, ⟨W0, W1, W2, W3⟩, %w, %b, -, Hc⟩
  ihave X0 := hx0 $$ X0
  icases X0 with ⟨X0, x0, Hx0⟩
  ihave X1 := hx1 $$ X1
  icases X1 with ⟨X1, x1, Hx1⟩
  ihave P0 := hp0 $$ P0
  icases P0 with ⟨P0, p0, Hp0⟩
  ihave P1 := hp1 $$ P1
  icases P1 with ⟨P1, p1, Hp1⟩
  ihave O0 := ho0 $$ O0
  icases O0 with ⟨O0, o0⟩
  ihave O1 := ho1 $$ O1
  icases O1 with ⟨O1, o1⟩
  ihave W0 := (of_where v 0) $$ W0
  icases W0 with ⟨W0, w0, G0⟩
  ihave W1 := (of_where v 1) $$ W1
  icases W1 with ⟨W1, w1, G1⟩
  ihave W2 := (of_where v 2) $$ W2
  icases W2 with ⟨W2, w2, G2⟩
  ihave W3 := (of_where v 3) $$ W3
  icases W3 with ⟨W3, w3, G3⟩
  isplitr [HO]
  · isplitl [X0 X1 O0 O1 P0 P1 W0 W1 W2 W3 Hc]
    · isplitl [X0 X1]
      · isplitl [X0]; · iexact X0
        iexact X1
      isplitl [O0 O1]
      · isplitl [O0]; · iexact O0
        iexact O1
      isplitl [P0 P1]
      · isplitl [P0]; · iexact P0
        iexact P1
      isplitl [W0 W1 W2 W3]
      · isplitl [W0]; · iexact W0
        isplitl [W1]; · iexact W1
        isplitl [W2]; · iexact W2
        iexact W3
      iexists w, b
      iexact Hc
    isplitl [x0 x1 p0 p1 o0 o1 w0 w1 w2 w3]
    · isplitl [x0]; · iexact x0
      isplitl [x1]; · iexact x1
      isplitl [p0]; · iexact p0
      isplitl [p1]; · iexact p1
      isplitl [o0]; · iexact o0
      isplitl [o1]; · iexact o1
      isplitl [w0]; · iexact w0
      isplitl [w1]; · iexact w1
      isplitl [w2]; · iexact w2
      iexact w3
    isplitl [Hx0 Hx1]
    · isplitl [Hx0]; · iexact Hx0
      iexact Hx1
    isplitl [G0 G1 G2 G3]
    · isplitl [G0]; · iexact G0
      isplitl [G1]; · iexact G1
      isplitl [G2]; · iexact G2
      iexact G3
    isplitl [Hp0]; · iexact Hp0
    iexact Hp1
  iexact HO

end Cert.Kernel.Hand

end
-- ==== Proof.Points.lean ====
module

public import proofs.«01_k».proof.Proof.Prog
public import proofs.«01_k».proof.Proof.Gen.Kernel.Launch

/-! # The printed body at each point is the step of that point -/

@[expose] public section

noncomputable section

namespace Cert.Kernel.Hand

open Idealize.ShloMosaic Idealize.ShloMosaic.TcCoe Idealize.ShloMosaic.Tactic
open Idealize.SL Idealize.SL.Sem Cert.Kernel.Gen

variable {F : FTy → Type} [FloatOps F]

/-- The printed body at point `t` runs the statements of `step t`. -/
theorem body_eq (t : Fin grid0.N) : bodyAt0 (F := F) t = step t.val := by
  rcases fin_N0 t with h | h | h | h | h | h | h | h | h | h | h | h | h | h <;> subst h <;> sl_kernel_rfl

end Cert.Kernel.Hand

end
-- ==== Proof.Run.lean ====
module

public import proofs.«01_k».proof.Proof.Ends
public import proofs.«01_k».proof.Proof.Points
public import proofs.«01_k».proof.Proof.Gen.Kernel.Frame
public import Idealize.ShloMosaic.Lib.Pipeline.FrameSuffixV

/-! # The launch -/

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts Facts₀

variable {F : FTy → Type} [FloatOps F]

local notation "𝕄" => MT nD τ sig Unit (Elt F) ℕ (Pipeline.UD sig nD τ) ℕ

variable {c : Dev nD} (v : (b : Ref sig .tc) → Buf (Elt F) ((c : Thread nD τ).loc b))

open Cert.Kernel.Gen
open Idealize.ShloMosaic.Pipeline (Dat Cfg Window BodyObligation cellOf)

variable (m : (ℓ : Loc nD τ sig) → Buf (Elt F) ℓ) (ρ : Dev nD → PrngReg)

/-! ## What the launch hands over -/

/-- The copies' ten semaphores. -/
abbrev osem0 : Fin 10 → SemLoc sig := fun j =>
  (![SemLoc.dma (xsem 0), SemLoc.dma (xsem 1), SemLoc.dma (psem 0), SemLoc.dma (psem 1), SemLoc.dma (osem 0), SemLoc.dma (osem 1),
    SemLoc.dma (wsem 0), SemLoc.dma (wsem 1), SemLoc.dma (wsem 2), SemLoc.dma (wsem 3)] : Fin 10 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(Z c (xsem 0) ∗ Z c (xsem 1) ∗ Z c (psem 0) ∗ Z c (psem 1) ∗ Z c (osem 0) ∗ Z c (osem 1)
      ∗ Z c (wsem 0) ∗ Z c (wsem 1) ∗ Z c (wsem 2) ∗ Z c (wsem 3)) := by
  rw [Pipeline.ownSems0_eq_of_list c osem0 [0, 1, 2, 3, 4, 5, 6, 7, 8, 9] (by decide) (by decide)]; rfl
/-- The arrays the copies read, and the one they write. -/
def H0 : Finset (Ref sig .tc) :=
  {main_arg0, main_arg1, main_arg2, main_arg3, main_arg4, main_arg6, main_arg8, main_arg10, main_arg13}
def R0 : Finset (Ref sig .tc) := {main_v20}
theorem H0_sub : H0 ⊆ Pipeline.restRefs sig spec0 := by decide
theorem R0_sub : R0 ⊆ Pipeline.restRefs sig spec0 \ H0 := by decide

abbrev pt (c : Dev nD) (b : Ref sig .tc) (f : Buf (Elt F) ((c : Thread nD τ).loc b)) : sProp 𝕄 := ((c : Thread nD τ).loc b) ↦{fullShare} f

theorem H0_eq (c : Dev nD) (v : (b : Ref sig .tc) → Buf (Elt F) ((c : Thread nD τ).loc b)) :
    (bigSep H0 (fun b => ((c : Thread nD τ).loc b) ↦{fullShare} v b) : sProp 𝕄)
      = iprop(pt c main_arg0 (v main_arg0) ∗ pt c main_arg1 (v main_arg1) ∗ pt c main_arg2 (v main_arg2) ∗ pt c main_arg3 (v main_arg3)
        ∗ pt c main_arg4 (v main_arg4) ∗ pt c main_arg6 (v main_arg6) ∗ pt c main_arg8 (v main_arg8) ∗ pt c main_arg10 (v main_arg10)
        ∗ pt c main_arg13 (v main_arg13)) := by
  rw [BI.bigSep_eq_bigSepL_of_eq [main_arg0, main_arg1, main_arg2, main_arg3, main_arg4, main_arg6, main_arg8, main_arg10, main_arg13]
    (by decide) (by decide)]; rfl
theorem R0_eq (c : Dev nD) (G : (b : Ref sig .tc) → Buf (Elt F) ((c : Thread nD τ).loc b)) :
    (bigSep R0 (fun b => ((c : Thread nD τ).loc b) ↦{fullShare} G b) : sProp 𝕄) = pt c main_v20 (G main_v20) := by
  rw [BI.bigSep_eq_bigSepL_of_eq [main_v20] (by decide) (by decide)]; rfl

theorem xin_eq (c : Dev nD) (v : (b : Ref sig .tc) → Buf (Elt F) ((c : Thread nD τ).loc b)) :
    XIn v = iprop(pt c main_arg0 (v main_arg0) ∗ pt c main_arg1 (v main_arg1) ∗ pt c main_arg2 (v main_arg2) ∗ pt c main_arg3 (v main_arg3)) := by
  unfold XIn; rw [four]; rfl

theorem wgot_eq (c : Dev nD) (v : (b : Ref sig .tc) → Buf (Elt F) ((c : Thread nD τ).loc b)) (s : Fin 4) :
    WGot v s = (pt c (win s).view.ref (v (win s).view.ref) : sProp 𝕄) := by
  unfold WGot
  rw [show (win s).view.set = Finset.univ from by fin_cases s <;> exact View.set_whole _]

theorem phome_eq (c : Dev nD) (v : (b : Ref sig .tc) → Buf (Elt F) ((c : Thread nD τ).loc b)) :
    (pt c main_arg13 (v main_arg13) : sProp 𝕄) ⊣⊢ iprop(PHome v 0 ∗ PHome v 1) :=
  halves (F := F) (ℓ := pin.view.loc (c : Thread nD τ)) fullShare (v main_arg13)

/-- What the launch hands over is what the tiles keep, and the result. -/
theorem hand_over (c : Dev nD) (v G : (c : Dev nD) → (b : Ref sig .tc) → Buf (Elt F) ((c : Thread nD τ).loc b)) :
    (Pipeline.ΦDRV osem0 spec0 H0 R0 v G c : sProp 𝕄) ⊣⊢ iprop(Kept (v c) ∗ pt c main_v20 (G c main_v20)) := by
  unfold Pipeline.ΦDRV Kept
  rw [scopedRest0_eq, ownSems00_eq, H0_eq c (v c), R0_eq c (G c), wgot_eq, wgot_eq, wgot_eq, wgot_eq]
  have hx := xin_split (v c)
  rw [xin_eq] at hx
  have hp := phome_eq c (v c)
  have a0 := ax_split (F := F) (c := c)
  have a1 := ao_split (F := F) (c := c)
  have a2 := ap_split (F := F) (c := c)
  have a3 := aw_split (F := F) (c := c)
  constructor
  · iintro ⟨⟨B0, B1, B2, B3, ⟨%w, B4⟩, %b, B5⟩, Hs, ⟨X0, X1, X2, X3, W0, W1, W2, W3, Hp⟩, HO⟩
    isplitr [HO]
    · isplitl [B0 B1 B2 B3 B4 B5]
      · isplitl [B0]; · iapply a0.1; iexact B0
        isplitl [B1]; · iapply a1.1; iexact B1
        isplitl [B2]; · iapply a2.1; iexact B2
        isplitl [B3]; · iapply a3.1; iexact B3
        iexists w, b
        unfold WCur
        isplitl [B4]; · iexact B4
        iexact B5
      isplitl [Hs]; · iexact Hs
      isplitl [X0 X1 X2 X3]
      · iapply hx.1
        isplitl [X0]; · iexact X0
        isplitl [X1]; · iexact X1
        isplitl [X2]; · iexact X2
        iexact X3
      isplitl [W0 W1 W2 W3]
      · isplitl [W0]; · iexact W0
        isplitl [W1]; · iexact W1
        isplitl [W2]; · iexact W2
        iexact W3
      iapply hp.1
      iexact Hp
    iexact HO
  · unfold WCur
    iintro ⟨⟨⟨B0, B1, B2, B3, %w, %b, B4, B5⟩, Hs, Hx, ⟨W0, W1, W2, W3⟩, Hp⟩, HO⟩
    ihave Hx := hx.2 $$ Hx
    icases Hx with ⟨X0, X1, X2, X3⟩
    isplitl [B0 B1 B2 B3 B4 B5]
    · isplitl [B0]; · iapply a0.2; iexact B0
      isplitl [B1]; · iapply a1.2; iexact B1
      isplitl [B2]; · iapply a2.2; iexact B2
      isplitl [B3]; · iapply a3.2; iexact B3
      isplitl [B4]; · iexists w; iexact B4
      iexists b; iexact B5
    isplitl [Hs]; · iexact Hs
    isplitr [HO]
    · isplitl [X0]; · iexact X0
      isplitl [X1]; · iexact X1
      isplitl [X2]; · iexact X2
      isplitl [X3]; · iexact X3
      isplitl [W0]; · iexact W0
      isplitl [W1]; · iexact W1
      isplitl [W2]; · iexact W2
      isplitl [W3]; · iexact W3
      iapply hp.2
      iexact Hp
    iexact HO

/-! ## The three staged inputs -/

theorem stage_0 : ∀ s : Fin 1, stage0_0 s = Memref.whole cc0_stg0_0 := by intro s; fin_cases s; rfl
theorem stage_1 : ∀ s : Fin 1, stage0_1 s = Memref.whole cc0_stg1_0 := by intro s; fin_cases s; rfl
theorem stage_2 : ∀ s : Fin 1, stage0_2 s = Memref.whole cc0_stg2_0 := by intro s; fin_cases s; rfl

theorem iblk_0 (c : Dev nD) (t : Fin cfg0.N) : iblk m c 0 t = bA (V m c) := by
  funext x
  unfold iblk bA
  rw [View.read_apply]
  refine congrArg (V m c main_v17) (funext fun a => Fin.ext ?_)
  refine (Pipeline.Window.rect_emb_val win0_0 t x a).trans ?_
  fin_cases a <;> exact (Nat.zero_mul _).symm ▸ Nat.zero_add _
theorem iblk_1 (c : Dev nD) (t : Fin cfg0.N) : iblk m c 1 t = gA (V m c) := by
  funext x
  unfold iblk gA
  rw [View.read_apply]
  refine congrArg (V m c main_v18) (funext fun a => Fin.ext ?_)
  refine (Pipeline.Window.rect_emb_val win0_1 t x a).trans ?_
  fin_cases a <;> exact (Nat.zero_mul _).symm ▸ Nat.zero_add _
theorem iblk_2 (c : Dev nD) (t : Fin cfg0.N) : iblk m c 2 t = tA (V m c) := by
  funext x
  unfold iblk tA
  rw [View.read_apply]
  refine congrArg (V m c main_v19) (funext fun a => Fin.ext ?_)
  refine (Pipeline.Window.rect_emb_val win0_2 t x a).trans ?_
  fin_cases a <;> exact (Nat.zero_mul _).symm ▸ Nat.zero_add _

/-! ## The proof data, and the body at each point -/

/-- The arrays as the launch finds them, each staged input left in place, and what is held before each tile. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Φ (V m c) t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- The staging buffer of each window at a point. -/
abbrev ms0_0 (t : Fin cfg0.N) : Memref sig .tc .vmem S4x1x768 .f32 := win0_0.stage (cfg0.slots t 0)
abbrev ms0_1 (t : Fin cfg0.N) : Memref sig .tc .vmem S1x768 .f32 := win0_1.stage (cfg0.slots t 1)
abbrev ms0_2 (t : Fin cfg0.N) : Memref sig .tc .vmem S1x768 .f32 := win0_2.stage (cfg0.slots t 2)

theorem own_0 (c : Dev nD) (t : Fin cfg0.N) : (owns (c : Thread nD τ) (ms0_0 t) fullShare (iblk m c 0 t) : sProp 𝕄) = BAll (V m c) := by
  rw [iblk_0, show ms0_0 t = Memref.whole cc0_stg0_0 from stage_0 _]
  exact owns_whole _ _ _ _
theorem own_1 (c : Dev nD) (t : Fin cfg0.N) : (owns (c : Thread nD τ) (ms0_1 t) fullShare (iblk m c 1 t) : sProp 𝕄)
    = (gstg.view.loc (c : Thread nD τ)) ↦{fullShare} gA (V m c) := by
  rw [iblk_1, show ms0_1 t = Memref.whole cc0_stg1_0 from stage_1 _]
  exact owns_whole _ _ _ _
theorem own_2 (c : Dev nD) (t : Fin cfg0.N) : (owns (c : Thread nD τ) (ms0_2 t) fullShare (iblk m c 2 t) : sProp 𝕄)
    = (tstg.view.loc (c : Thread nD τ)) ↦{fullShare} tA (V m c) := by
  rw [iblk_2, show ms0_2 t = Memref.whole cc0_stg2_0 from stage_2 _]
  exact owns_whole _ _ _ _

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  have hs := step_spec (V m c) t.val (lt_of_lt_of_eq t.isLt N_0)
  unfold bodyPre bodyPost
  rw [body_eq t, after0_0, after0_1, after0_2, own_0, own_1, own_2]
  simp only [before0_0, before0_1, before0_2, own_0, own_1, own_2]
  rw [show (dats m 0 c).Φ t.castSucc = Φ (V m c) t.val from rfl, show (dats m 0 c).Φ t.succ = Φ (V m c) (t.val + 1) from rfl]
  unfold Dat.owesAt Pipeline.owesWithin
  rw [show (dats m 0 c).owed t.castSucc = 0 from rfl, show (dats m 0 c).owed t.succ = 0 from rfl]
  iintro ⟨HΦ, ⟨%Ws, -, HW⟩, ⟨%_, H0⟩, ⟨%_, H1⟩, %_, H2⟩
  iapply (wp_wand frame _ _) $$ [HΦ HW H0 H1 H2]
  · iapply hs
    isplitl [HΦ]; · iexact HΦ
    isplitl [H0]; · iexact H0
    isplitl [H1 H2]
    · unfold GT
      isplitl [H1]; · iexact H1
      iexact H2
    unfold OW
    iexists Ws
    iexact HW
  unfold GT OW
  iintro %_ ⟨HΦ, H0, ⟨H1, H2⟩, %Ws', HW⟩
  isplitl [HΦ]; · iexact HΦ
  isplitl [HW]
  · iexists Ws'
    isplitr; · ipureintro; exact fun _ _ => Or.inl trivial
    iexact HW
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The result the launch leaves. -/
def GV (c : Dev nD) (b : Ref sig .tc) : Buf (Elt F) ((c : Thread nD τ).loc b) :=
  if h : b = main_v20 then h ▸ (OUT (V m c) : Buf (Elt F) ((c : Thread nD τ).loc main_v20)) else V m c b
theorem GV_out (c : Dev nD) : GV m c main_v20 = OUT (V m c) := by unfold GV; rw [dif_pos rfl]

/-- Every buffer no window stages, after the launch and the lines behind it. -/
def EV (c : Dev nD) : Valuation τ sig (Elt F) :=
  StableHlo.after (List.flatten [hostOps1]) (Pipeline.withArrays spec0 c (Pipeline.withR (V0 m c) R0 c (GV m c)) fun w => (dats m 0 c).arrAt w cfg0.N)

set_option backward.isDefEq.respectTransparency.types false in
theorem run_main : θ_run defs (onTc (τ := τ) (main (F := F))) (s₀ m ρ) (fun r =>
    (∀ c : Dev nD, ∀ b ∈ Pipeline.restRefs sig spec0, r.2.mem ((c.tc : Thread nD τ).loc b) = EV m c (Proc.devRef .tc b)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := GV m) (hmain := hmain m Variants.none) (hA := A_eq m)
    (hin := fun c => (hand_over c (V m) (V m)).1.trans (enter (V m c)))
    (hout := fun c => (leave (V m c)).trans (by
      have h := (hand_over c (V m) (GV m)).2
      rw [GV_out] at h
      exact h))
    (hQ' := fun r h => ⟨fun c => (h.1 c).2, h.2⟩)

end Cert.Kernel.Hand

end
-- ==== Proof.Full.lean ====
module

public import proofs.«01_k».proof.Proof.Run

/-! # The whole run and what it leaves -/

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts Facts₀

variable {F : FTy → Type} [FloatOps F]

local notation "𝕄" => MT nD τ sig Unit (Elt F) ℕ (Pipeline.UD sig nD τ) ℕ

variable {c : Dev nD} (v : (b : Ref sig .tc) → Buf (Elt F) ((c : Thread nD τ).loc b))

open Cert.Kernel.Gen

variable (m : (ℓ : Loc nD τ sig) → Buf (Elt F) ℓ) (ρ : Dev nD → PrngReg)

/-- The second result: true everywhere. -/
def TRUE : S8x3232.Idx → Elt F .i1 := broadcastInDim S8x3232 ![] Facts₀.bcast_S_S8x3232 (constantI S_ 1 1#1 : (⟨S_, .i1⟩ : BufTy).Contents (Elt F))

/-- A buffer the launch and the lines behind it leave alone. -/
theorem EV_keep (c : Dev nD) (b : Ref sig .tc) (h1 : b ≠ main_c) (h2 : b ≠ main_v21)
    (h3 : ∀ w, Pipeline.arrRef spec0 w ≠ b) (h4 : b ∉ R0) : EV m c (Proc.devRef .tc b) = V m c b := by
  unfold EV
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.nullary_writes, StableHlo.unary_writes, Finset.mem_singleton]
      exact ⟨StableHlo.devRef_ne_of_ne h1, StableHlo.devRef_ne_of_ne h2⟩)),
    Pipeline.withArrays_of_ne _ c _ _ b h3, Pipeline.withR_of_not_mem _ _ _ _ b h4]

theorem EV_out (c : Dev nD) : EV m c (Proc.devRef .tc main_v20) = OUT (V m c) := by
  unfold EV
  rw [StableHlo.after_of_forall_not_mem (b := Proc.devRef .tc main_v20) _ _ (List.forall_iff_forall_mem.mp (by
      simp only [hostOps1, List.flatten_cons, List.flatten_nil, List.append_nil, List.cons_append, List.nil_append, List.Forall,
        StableHlo.nullary_writes, StableHlo.unary_writes, Finset.mem_singleton]
      exact ⟨StableHlo.devRef_ne_of_ne (by decide), StableHlo.devRef_ne_of_ne (by decide)⟩)),
    Pipeline.withArrays_of_ne _ c _ _ main_v20 (by decide), Pipeline.withR_of_mem _ _ _ _ main_v20 (by decide), GV_out]

theorem EV_true (c : Dev nD) : EV m c (Proc.devRef .tc main_v21) = (TRUE : S8x3232.Idx → Elt F .i1) := by
  unfold EV TRUE
  simp only [hostOps1, List.flatten_cons, List.flatten_nil, List.append_nil, List.cons_append, List.nil_append]
  rfl

/-- The whole run: both results, the arguments kept, and every semaphore at zero. -/
theorem run_full : θ_run defs (onTc (τ := τ) (main (F := F))) ⟨m, fun _ => 0, ρ⟩ (fun r => (∀ c : Dev nD,
      r.2.mem ((c.tc : Thread nD τ).loc main_v20) = OUT (V m c)
      ∧ r.2.mem ((c.tc : Thread nD τ).loc main_v21) = (TRUE : S8x3232.Idx → Elt F .i1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) := by
  refine (θ_run defs _ _).mono ?_ (run_main m ρ)
  rintro r ⟨h, hz⟩
  refine ⟨fun c => ?_, hz⟩
  have e : ∀ b : Ref sig .tc, b.isScoped = false → (∀ w, Pipeline.arrRef spec0 w ≠ b) → b ≠ main_c → b ≠ main_v21 → b ∉ R0 →
      r.2.mem ((c.tc : Thread nD τ).loc b) = V m c b := fun b hb ha h1 h2 h4 =>
    (h c b (Pipeline.mem_restRefs_of b hb ha)).trans (EV_keep m c b h1 h2 ha h4)
  exact ⟨(h c main_v20 (Pipeline.mem_restRefs_of main_v20 (by decide) (by decide))).trans (EV_out m c),
      (h c main_v21 (Pipeline.mem_restRefs_of main_v21 (by decide) (by decide))).trans (EV_true m c),
      (e main_arg0 (by decide) (by decide) (by decide) (by decide) (by decide)).trans (V_main_arg0 m c),
      (e main_arg1 (by decide) (by decide) (by decide) (by decide) (by decide)).trans (V_main_arg1 m c),
      (e main_arg2 (by decide) (by decide) (by decide) (by decide) (by decide)).trans (V_main_arg2 m c),
      (e main_arg3 (by decide) (by decide) (by decide) (by decide) (by decide)).trans (V_main_arg3 m c),
      (e main_arg4 (by decide) (by decide) (by decide) (by decide) (by decide)).trans (V_main_arg4 m c),
      (e main_arg5 (by decide) (by decide) (by decide) (by decide) (by decide)).trans (V_main_arg5 m c),
      (e main_arg6 (by decide) (by decide) (by decide) (by decide) (by decide)).trans (V_main_arg6 m c),
      (e main_arg7 (by decide) (by decide) (by decide) (by decide) (by decide)).trans (V_main_arg7 m c),
      (e main_arg8 (by decide) (by decide) (by decide) (by decide) (by decide)).trans (V_main_arg8 m c),
      (e main_arg9 (by decide) (by decide) (by decide) (by decide) (by decide)).trans (V_main_arg9 m c),
      (e main_arg10 (by decide) (by decide) (by decide) (by decide) (by decide)).trans (V_main_arg10 m c),
      (e main_arg11 (by decide) (by decide) (by decide) (by decide) (by decide)).trans (V_main_arg11 m c),
      (e main_arg12 (by decide) (by decide) (by decide) (by decide) (by decide)).trans (V_main_arg12 m c),
      (e main_arg13 (by decide) (by decide) (by decide) (by decide) (by decide)).trans (V_main_arg13 m c),
      (e main_arg14 (by decide) (by decide) (by decide) (by decide) (by decide)).trans (V_main_arg14 m c),
      (e main_arg15 (by decide) (by decide) (by decide) (by decide) (by decide)).trans (V_main_arg15 m c)⟩

end Cert.Kernel.Hand

end
-- ==== Proof.Twice.lean ====
module

public import proofs.«01_k».proof.Proof.Full
public import proofs.«01_k».proof.Proof.Gen.KernelIdeal

/-! # The same program, printed twice

The idealised program is the kernel's text again: nothing was rewritten. So its run, at any meaning of
the float formats, is the kernel's. -/

@[expose] public section

noncomputable section

namespace Cert.Kernel.Hand

open Idealize.ShloMosaic Idealize.ShloMosaic.TcCoe Idealize.ShloMosaic.Tactic Idealize.SL.Sem

variable {F : FTy → Type} [FloatOps F]

/-- The bodies agree. -/
theorem defs₀_eq : (Cert.KernelIdeal.defs₀ (F := F) : Defs Cert.Kernel.nD Cert.Kernel.τ Cert.Kernel.sig (Elt F) Cert.Kernel.Λ₀)
    = (Cert.Kernel.defs₀ (F := F)) := by sl_kernel_rfl

/-- The programs' functions agree. -/
theorem defs_eq : (Cert.KernelIdeal.defs (F := F) : Defs Cert.Kernel.nD Cert.Kernel.τ Cert.Kernel.sig (Elt F) _)
    = (Cert.Kernel.defs (F := F)) := by
  unfold Cert.KernelIdeal.defs Cert.Kernel.defs
  exact congrArg (Pipeline.defs Cert.Kernel.pcfgs) defs₀_eq

end Cert.Kernel.Hand

namespace Cert.KernelIdeal.Hand

open Idealize.ShloMosaic Idealize.ShloMosaic.TcCoe Idealize.ShloMosaic.Tactic Idealize.SL.Sem

variable {F : FTy → Type} [FloatOps F]

/-- The idealised program's run: both results, the arguments kept, and every semaphore at zero. -/
theorem run_full (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v20) = Cert.Kernel.Hand.OUT (Cert.Kernel.Gen.V m c)
      ∧ r.2.mem ((c.tc : Thread nD τ).loc main_v21) = (Cert.Kernel.Hand.TRUE : Cert.Kernel.S8x3232.Idx → Elt F .i1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) := by
  have h := Cert.Kernel.Hand.run_full (F := F) m ρ
  rw [← Cert.Kernel.Hand.defs_eq] at h
  exact h

end Cert.KernelIdeal.Hand

end
-- ==== Proof.Norm.lean ====
module

public import Idealize.ShloMosaic.PureOps.Ideal.Laws

/-! # A normalised row

The mathematics of one row over the extended reals: its mean, its variance, and the two ways of dividing
by the deviation. -/

@[expose] public section

noncomputable section

namespace Cert.Norm

open Idealize.ShloMosaic
open scoped BigOperators

/-- The row length, as the programs write it. -/
def len : EReal := Ideal.ofBits .f32 0x44400000#32
/-- The constant under the root. -/
def eps : EReal := Ideal.ofBits .f32 0x2B8CBCCC#32

/-- The mean of a row. -/
def mean (y : Fin 768 → EReal) : EReal := Ideal.div (∑ i, y i) len
/-- The variance of a row, with the constant added. -/
def spread (y : Fin 768 → EReal) : EReal := Ideal.div (∑ i, (y i - mean y) * (y i - mean y)) len + eps

/-- A row's entry, normalised: divided by the root of the variance, scaled and moved. -/
def norm (y : Fin 768 → EReal) (g b : EReal) (j : Fin 768) : EReal :=
  Ideal.div (y j - mean y) (Ideal.sqrt (spread y)) * g + b
/-- The same, multiplied by the reciprocal root. -/
def normR (y : Fin 768 → EReal) (g b : EReal) (j : Fin 768) : EReal :=
  (y j - mean y) * Ideal.rsqrt (spread y) * g + b

theorem len_pos : 0 < len := by
  unfold len; simp only [Ideal.ofBits, Ideal.ieee]; simp [-EReal.coe_mul]
theorem eps_pos : 0 < eps := by
  unfold eps; simp only [Ideal.ofBits, Ideal.ieee]; simp [-EReal.coe_mul]

/-- A square is not negative. -/
theorem sq_nonneg (x : EReal) : 0 ≤ x * x := by
  rcases le_total 0 x with h | h
  · exact mul_nonneg h h
  · have h' : 0 ≤ -x := EReal.neg_nonneg.2 h
    have := mul_nonneg h' h'
    rwa [neg_mul_neg] at this

theorem div_nonneg {x y : EReal} (hx : 0 ≤ x) (hy : 0 < y) : 0 ≤ Ideal.div x y := by
  unfold Ideal.div
  rw [if_neg hy.ne']
  exact mul_nonneg hx (EReal.inv_nonneg_of_nonneg hy.le)

theorem spread_pos (y : Fin 768 → EReal) : 0 < spread y := by
  unfold spread
  refine lt_of_lt_of_le eps_pos ?_
  exact le_add_of_nonneg_left (div_nonneg (Finset.sum_nonneg fun i _ => sq_nonneg _) len_pos)

/-- Times the reciprocal root is divided by the root, above zero. -/
theorem mul_rsqrt {x z : EReal} (hz : 0 < z) : x * Ideal.rsqrt z = Ideal.div x (Ideal.sqrt z) := by
  induction z with
  | bot => exact absurd hz (not_lt.2 bot_le)
  | top =>
    change x * 0 = Ideal.div x ⊤
    unfold Ideal.div
    rw [if_neg EReal.top_ne_zero, EReal.inv_top]
  | coe r =>
    have hr : 0 < r := EReal.coe_pos.1 hz
    have hs : Real.sqrt r ≠ 0 := (Real.sqrt_pos.2 hr).ne'
    change x * (if r < 0 then (⊥ : EReal) else if r = 0 then ⊤ else (((Real.sqrt r)⁻¹ : ℝ) : EReal)) = Ideal.div x (if r < 0 then (⊥ : EReal) else (Real.sqrt r : EReal))
    rw [if_neg hr.le.not_gt, if_neg hr.ne', if_neg hr.le.not_gt]
    unfold Ideal.div
    rw [if_neg (EReal.coe_ne_zero.2 hs), EReal.coe_inv]

theorem normR_eq (y : Fin 768 → EReal) (g b : EReal) (j : Fin 768) : normR y g b j = norm y g b j := by
  unfold normR norm; rw [mul_rsqrt (spread_pos y)]

end Cert.Norm

end
-- ==== Proof.Rows.lean ====
module

public import proofs.«01_k».proof.Proof.Prog
public import proofs.«01_k».proof.Proof.Norm
public import Idealize.ShloMosaic.Lib.Pointwise

/-! # What one block of rows computes, over the extended reals -/

@[expose] public section

noncomputable section

namespace Cert.Kernel.Hand

open Idealize.ShloMosaic Idealize.ShloMosaic.TcCoe
open Facts Facts₀

set_option maxRecDepth 16384 in
/-- One entry of a block: the product, the addend, and the normalisation along the row. -/
theorem rows_apply (add : FVec Ideal S256x768 .f32) (g b : FVec Ideal S1x768 .f32) (w : FVec Ideal S1024x768 .bf16)
    (x : FVec Ideal S1x1x256x1024 .f32) (r : Fin 256) (j : Fin 768) :
    rows add g b w x (ix4 0 0 r j)
      = Cert.Norm.normR (fun i => (∑ k : Fin 1024, x (ix4 0 0 r k) * w (ix2 k i)) + add (ix2 r i))
          (g (ix2 0 j)) (b (ix2 0 j)) j := by
  pointwise [rows, Cert.Norm.normR, Cert.Norm.mean, Cert.Norm.spread, Cert.Norm.len, Cert.Norm.eps]

end Cert.Kernel.Hand

end
-- ==== Proof.Host.lean ====
module

public import proofs.«01_k».proof.Proof.Contents
public import proofs.«01_k».proof.Proof.Gen.Kernel.Frame
public import Idealize.ShloMosaic.Lib.Pointwise
public import Idealize.ShloMosaic.Lib.StableHlo.ReadAt

/-! # What the lines before the launch leave in its operands

The four bias rows with the segments' type rows added, and the two rows of the normalisation. -/

@[expose] public section

noncomputable section

namespace Cert.Kernel.Hand

open Idealize.ShloMosaic Idealize.ShloMosaic.TcCoe
open Facts Facts₀

variable (m : (ℓ : Loc nD τ sig) → Buf (Elt Ideal) ℓ) (c : Dev nD)

/-- The bias of segment `s`. -/
def biasOf (s : Fin 4) : S768.Idx → EReal :=
  match s with
  | ⟨0, _⟩ => m ((c : Thread nD τ).loc main_arg5)
  | ⟨1, _⟩ => m ((c : Thread nD τ).loc main_arg7)
  | ⟨2, _⟩ => m ((c : Thread nD τ).loc main_arg9)
  | ⟨3, _⟩ => m ((c : Thread nD τ).loc main_arg11)
/-- The table of type rows. -/
def types : S5x768.Idx → EReal := m ((c : Thread nD τ).loc main_arg12)

set_option maxRecDepth 16384 in
/-- The scale as one row. -/
theorem gamma_apply (j : Fin 768) : (Gen.V m c main_v18 : S1x768.Idx → EReal) (ix2 0 j) = (m ((c : Thread nD τ).loc main_arg14) : S768.Idx → EReal) (ix1 j) := by
  unfold Gen.V Gen.V0 Gen.hostOps0
  after_reads_at

set_option maxRecDepth 16384 in
/-- The shift as one row. -/
theorem beta_apply (j : Fin 768) : (Gen.V m c main_v19 : S1x768.Idx → EReal) (ix2 0 j) = (m ((c : Thread nD τ).loc main_arg15) : S768.Idx → EReal) (ix1 j) := by
  unfold Gen.V Gen.V0 Gen.hostOps0
  after_reads_at

set_option maxRecDepth 16384 in
/-- Bias row `s`: the segment's bias and its type row, number `s + 1`. -/
theorem bias_apply (s : Fin 4) (j : Fin 768) : (Gen.V m c main_v17 : S4x1x768.Idx → EReal) (ix3 s 0 j)
    = biasOf m c s (ix1 j) + types m c (ix2 ⟨s.val + 1, by omega⟩ j) := by
  unfold Gen.V Gen.V0 Gen.hostOps0
  match s with
  | ⟨0, _⟩ => after_reads_at; after_reads_at; rfl
  | ⟨1, _⟩ => after_reads_at; after_reads_at; rfl
  | ⟨2, _⟩ => after_reads_at; after_reads_at; rfl
  | ⟨3, _⟩ => after_reads_at; after_reads_at; rfl

end Cert.Kernel.Hand

end
-- ==== Proof.Entry.lean ====
module

public import proofs.«01_k».proof.Proof.Rows
public import proofs.«01_k».proof.Proof.Host

/-! # One entry of the kernel's result -/

@[expose] public section

noncomputable section

namespace Cert.Kernel.Hand

open Idealize.ShloMosaic Idealize.ShloMosaic.TcCoe
open Facts Facts₀

section
variable {c : Dev nD} (v : (b : Ref sig .tc) → Buf (Elt Ideal) ((c : Thread nD τ).loc b))

/-- A slab cast to a matrix and narrowed has the slab's entries. -/
theorem narrow_apply (x : FVec Ideal S1x1024x768 .f32) (k : Fin 1024) (j : Fin 768) :
    shapeCast S1024x768 (truncf .bf16 (shapeCast S1024x768 x shapeCasts_S1x1024x768_S1024x768) bitsLt_bf16_f32)
      shapeCasts_S1024x768_S1024x768 (ix2 k j) = x (ix3 0 k j) := by
  rw [shapeCast_self]
  pointwise

set_option maxRecDepth 16384 in
/-- An entry of the weights in the narrow format. -/
theorem WC_apply (s : Fin 4) (k : Fin 1024) (j : Fin 768) : WC v s (ix2 k j) = wA v s (ix2 k j) := by
  refine (narrow_apply _ k j).trans ?_
  change WB v ((Rect.unit (s := S4x1024x768) ![s.val, 0, 0] S1x1024x768.size (inb_wdst s)).emb (ix3 0 k j)) = _
  unfold WB
  have e0 : ((Rect.unit (s := S4x1024x768) ![s.val, 0, 0] S1x1024x768.size (inb_wdst s)).emb (ix3 0 k j)) 0 = s :=
    Fin.ext (by rw [Rect.emb_apply]; simp [Rect.unit])
  have e1 : ((Rect.unit (s := S4x1024x768) ![s.val, 0, 0] S1x1024x768.size (inb_wdst s)).emb (ix3 0 k j)) 1 = k :=
    Fin.ext (by rw [Rect.emb_apply]; simp [Rect.unit])
  have e2 : ((Rect.unit (s := S4x1024x768) ![s.val, 0, 0] S1x1024x768.size (inb_wdst s)).emb (ix3 0 k j)) 2 = j :=
    Fin.ext (by rw [Rect.emb_apply]; simp [Rect.unit])
  rw [e0, e1, e2]
  rfl

set_option maxRecDepth 16384 in
/-- An entry of the bias row. -/
theorem BC_apply (s : Fin 4) (j : Fin 768) : BC v s (ix2 0 j) = bA v (ix3 s 0 j) := by
  pointwise [BC]
  change bA v ((Rect.unit (s := S4x1x768) ![s.val, 0, 0] S1x1x768.size (inb_bias s)).emb (ix3 0 0 j)) = _
  congr 1
  funext a
  apply Fin.ext
  rw [Rect.emb_apply]
  fin_cases a <;> simp [Rect.unit] <;> rfl

/-- An entry of a tile's positions, in a row the tile has. -/
theorem prow_apply (t : ℕ) (r : Fin 256) (h : r.val < nv t) (j : Fin 768) : prow v t (ix3 0 r j) = pAt v (gst t + r.val) j := by
  change PS v t ((Rect.unit (s := S2x256x768) ![(par t).val, 0, 0] S1x256x768.size (inb_prow (par t))).emb (ix3 0 r j)) = _
  have e1 : ((Rect.unit (s := S2x256x768) ![(par t).val, 0, 0] S1x256x768.size (inb_prow (par t))).emb (ix3 0 r j)) 1 = r :=
    Fin.ext (by rw [Rect.emb_apply]; simp [Rect.unit])
  have e2 : ((Rect.unit (s := S2x256x768) ![(par t).val, 0, 0] S1x256x768.size (inb_prow (par t))).emb (ix3 0 r j)) 2 = j :=
    Fin.ext (by rw [Rect.emb_apply]; simp [Rect.unit])
  unfold PS
  rw [e1, e2, tk_lt h]

/-- An entry of a tile's rows, in a row the tile has. -/
theorem xrow_apply (t : ℕ) (b : Fin 8) (r : Fin 256) (h : r.val < nv t) (k : Fin 1024) :
    xrow v t b (ix4 0 0 r k) = xAt v (seg t) b (lst t + r.val) k := by
  change X v t ((Rect.unit (s := S2x8x256x1024) ![(par t).val, b.val, 0, 0] S1x1x256x1024.size (inb_xrow (par t) b)).emb (ix4 0 0 r k)) = _
  have e1 : ((Rect.unit (s := S2x8x256x1024) ![(par t).val, b.val, 0, 0] S1x1x256x1024.size (inb_xrow (par t) b)).emb (ix4 0 0 r k)) 1 = b :=
    Fin.ext (by rw [Rect.emb_apply]; simp [Rect.unit])
  have e2 : ((Rect.unit (s := S2x8x256x1024) ![(par t).val, b.val, 0, 0] S1x1x256x1024.size (inb_xrow (par t) b)).emb (ix4 0 0 r k)) 2 = r :=
    Fin.ext (by rw [Rect.emb_apply]; simp [Rect.unit])
  have e3 : ((Rect.unit (s := S2x8x256x1024) ![(par t).val, b.val, 0, 0] S1x1x256x1024.size (inb_xrow (par t) b)).emb (ix4 0 0 r k)) 3 = k :=
    Fin.ext (by rw [Rect.emb_apply]; simp [Rect.unit])
  unfold X
  rw [e1, e2, e3, tk_lt h]

/-- An entry of what is added to the product: bias and position. -/
theorem addRow_apply (b : FVec Ideal S1x768 .f32) (q : FVec Ideal S1x256x768 .f32) (r : Fin 256) (j : Fin 768) :
    addRow b q (ix2 r j) = b (ix2 0 j) + q (ix3 0 r j) := by
  pointwise [addRow]

/-- An entry of a tile's result rows, in a row the tile has. -/
theorem orow_apply (t : ℕ) (b : Fin 8) (r : Fin 256) (h : r.val < nv t) (j : Fin 768) :
    orow v t b (ix4 0 0 r j)
      = Cert.Norm.normR (fun i => (∑ k : Fin 1024, xAt v (seg t) b (lst t + r.val) k * wA v (seg t) (ix2 k i))
          + (bA v (ix3 (seg t) 0 i) + pAt v (gst t + r.val) i)) (gA v (ix2 0 j)) (tA v (ix2 0 j)) j := by
  unfold orow
  rw [rows_apply]
  simp only [shapeCast_self, addRow_apply, BC_apply, prow_apply v t r h, xrow_apply v t b r h, WC_apply]

/-- An entry of the result. -/
theorem OUT_apply (b : Fin 8) (l : Fin 3232) (j : Fin 768) :
    OUT v (ix3 b l j)
      = Cert.Norm.normR (fun i => (∑ k : Fin 1024, xAt v (seg (tileOf l.val)) b (lst (tileOf l.val) + (l.val - gst (tileOf l.val))) k
            * wA v (seg (tileOf l.val)) (ix2 k i))
          + (bA v (ix3 (seg (tileOf l.val)) 0 i) + pAt v l.val i)) (gA v (ix2 0 j)) (tA v (ix2 0 j)) j := by
  have hl := l.isLt
  have h1 : gst (tileOf l.val) ≤ l.val := by unfold gst tileOf; split_ifs <;> omega
  have h2 : l.val - gst (tileOf l.val) < nv (tileOf l.val) := by unfold nv gst tileOf; split_ifs <;> omega
  have e := orow_apply v (tileOf l.val) b ⟨l.val - gst (tileOf l.val), tileOf_row _ l.isLt⟩ h2 j
  rw [show gst (tileOf l.val) + (l.val - gst (tileOf l.val)) = l.val by omega] at e
  exact e

end

end Cert.Kernel.Hand

end
-- ==== Proof.Look.lean ====
module

public import proofs.«01_k».proof.Proof.Gen.ReferenceIdeal.Run
public import Idealize.ShloMosaic.Lib.Pointwise
public import Idealize.ShloMosaic.Lib.WordCmp
public import Idealize.ShloMosaic.Lib.ReduceAll
public import Idealize.ShloMosaic.Lib.Routing.Ops

/-! # Rows taken from a table by number

The reference takes its position rows and its type rows from two tables by row numbers. A negative number
counts from the table's end, and a number outside the table gives a row of no numbers. The numbers met
here all lie in the table, so each row taken is the row of that number. -/

@[expose] public section

noncomputable section

namespace Cert.Look

open Idealize.ShloMosaic Idealize.ShloMosaic.TcCoe
open Cert.ReferenceIdeal Cert.ReferenceIdeal.Facts Cert.ReferenceIdeal.Facts₀

variable [Cert.ReferenceIdeal.Facts]

/-- The row numbers, a negative one counted from the end of a table of `n` rows, as a column. -/
def wrap (ids : IVec S3232 32) (n : BitVec 32) : IVec S3232x1 32 :=
  broadcastInDim S3232x1 ![0] bcast_S3232_S3232x1_0
    (select (cmpi .slt ids (broadcastInDim S3232 ![] bcast_S_S3232 (constantI S_ 32 0#32)))
      (addi ids (broadcastInDim S3232 ![] bcast_S_S3232 (constantI S_ 32 n))) ids)

/-- Which row numbers lie between zero and `last`. -/
def inside (I : IVec S3232x1 32) (last : BitVec 32) : IVec S3232x1 1 :=
  andi (cmpi .sge I (broadcastInDim S3232x1 ![] bcast_S_S3232x1 (constantI S_ 32 0#32)))
    (cmpi .sle I (broadcastInDim S3232x1 ![0, 1] bcast_S1x1_S3232x1_0_1
      (broadcastInDim S1x1 ![1] bcast_S1_S1x1_1 (constantI S1 32 last))))

/-- The rows of a table of `n` rows with the numbers `ids`. -/
def look {nb : ℕ} (d : GatherDims (Routing.shape2 nb 768) S3232x1 S3232x768) (ids : IVec S3232 32) (n last : BitVec 32)
    (x : FVec Ideal (Routing.shape2 nb 768) .f32) : FVec Ideal S3232x768 .f32 :=
  select (broadcastInDim S3232x768 ![0] bcast_S3232_S3232x768_0
      (Host.reduce IntOp.andi (inside (wrap ids n) last) (constantI S_ 1 1#1) reducesTo_S3232x1_S3232_d1 h_S_))
    (Host.gather d x (wrap ids n)) (broadcastInDim S3232x768 ![] bcast_S_S3232x768 (constant S_ .f32 0x7FC00000#32))

section
variable (ids : IVec S3232 32) (f : Fin 3232 → ℕ) (hf : ∀ l, ids (ix1 l) = BitVec.ofNat 32 (f l))
include hf

/-- A number that is not negative stays. -/
theorem wrap_apply (n : BitVec 32) (l : Fin 3232) (h : f l < 2 ^ 31) : wrap ids n (ix2 l 0) = BitVec.ofNat 32 (f l) := by
  pointwise [wrap]
  rw [hf]
  word_cmp
  exact if_neg (Nat.not_lt_zero _)

/-- A number of the table is in the table. -/
theorem inside_apply (n : BitVec 32) (b : ℕ) (l : Fin 3232) (h : f l ≤ b) (hb : b < 2 ^ 31) :
    inside (wrap ids n) (BitVec.ofNat 32 b) (ix2 l 0) = 1#1 := by
  have e := wrap_apply ids f hf n l (by omega)
  pointwise [inside]
  rw [e]
  word_cmp

/-- The row taken is the row of that number. -/
theorem look_apply {nb : ℕ} (d : GatherDims (Routing.shape2 nb 768) S3232x1 S3232x768) (hoff : d.offsetDims = [1])
    (hcoll : d.collapsedSliceDims = [0]) (hob : d.operandBatchingDims = [])
    (hsim : d.startIndexMap = [0]) (hivd : d.indexVectorDim = 1) (n : BitVec 32) (b : ℕ)
    (x : FVec Ideal (Routing.shape2 nb 768) .f32) (h : ∀ l, f l ≤ b) (hb : b < nb) (hnb : nb < 2 ^ 31)
    (l : Fin 3232) (j : Fin 768) :
    look d ids n (BitVec.ofNat 32 b) x (ix2 l j) = x (ix2 ⟨f l, Nat.lt_of_le_of_lt (h l) hb⟩ j) := by
  have hl := h l
  have e2 := Routing.gather_row d hoff hcoll hob hsim hivd x (wrap ids n) l j ⟨f l, Nat.lt_of_le_of_lt hl hb⟩
    (wrap_apply ids f hf n l (by omega)) hnb
  have e1 := inside_apply ids f hf n b l hl (by omega)
  pointwise [look]
  rw [Finset.univ_unique, Finset.fold_singleton]
  rw [show (default : Fin 1) = 0 from rfl, e1]
  exact e2

end

end Cert.Look

end
-- ==== Proof.Ref.lean ====
module

public import proofs.«01_k».proof.Proof.Look
public import proofs.«01_k».proof.Proof.Norm

/-! # What the reference computes

Its result, entry by entry: the four products with their biases one under the other, the position rows
and the type rows added, and every row normalised. -/

@[expose] public section

noncomputable section

namespace Cert.Ref

open Idealize.ShloMosaic Idealize.ShloMosaic.TcCoe
open Cert.ReferenceIdeal Cert.ReferenceIdeal.Facts Cert.ReferenceIdeal.Facts₀

variable [Cert.ReferenceIdeal.Facts]

/-! ## The type numbers -/

/-- The type number of every row: 1 to 4, by segment. -/
def kinds : IVec S3232 32 :=
  concatenate S3232 0 [⟨S1024, broadcastInDim S1024 ![] bcast_S_S1024 (constantI S_ 32 1#32)⟩,
    ⟨S2048, broadcastInDim S2048 ![] bcast_S_S2048 (constantI S_ 32 2#32)⟩,
    ⟨S128, broadcastInDim S128 ![] bcast_S_S128 (constantI S_ 32 3#32)⟩,
    ⟨S32, broadcastInDim S32 ![] bcast_S_S32 (constantI S_ 32 4#32)⟩] concatenates_S1024_S2048_S128_S32_S3232_d0

/-- The type number of row `l`. -/
def kindOf (l : ℕ) : ℕ := if l < 1024 then 1 else if l < 3072 then 2 else if l < 3200 then 3 else 4
theorem kindOf_le (l : ℕ) : kindOf l ≤ 4 := by unfold kindOf; split_ifs <;> omega

/-- The type numbers, read by row. -/
theorem kinds_apply (l : Fin 3232) : kinds (ix1 l) = BitVec.ofNat 32 (kindOf l.val) := by
  pointwise [kinds]
  unfold kindOf
  split_ifs <;> first | rfl | omega

/-! ## The rows before the normalisation -/

section
variable (m : (ℓ : Loc nD τ sig) → Buf (Elt Ideal) ℓ) (c : Dev nD)

/-- The products with their biases, one segment under the other. -/
def products : FVec Ideal S8x3232x768 .f32 :=
  concatenate S8x3232x768 1
    [⟨S8x1024x768, addf (Host.dotGeneral (φ₁ := .f32) (φ₂ := .f32) dot_S8x1024x1024_S1024x768_S8x1024x768_2_0_01_1_n_n none
        (m ((c.tc : Thread nD τ).loc main_arg0)) (m ((c.tc : Thread nD τ).loc main_arg4)))
      (broadcastInDim S8x1024x768 ![0, 1, 2] bcast_S1x1x768_S8x1024x768_0_1_2
        (broadcastInDim S1x1x768 ![2] bcast_S768_S1x1x768_2 (m ((c.tc : Thread nD τ).loc main_arg5))))⟩,
     ⟨S8x2048x768, addf (Host.dotGeneral (φ₁ := .f32) (φ₂ := .f32) dot_S8x2048x1024_S1024x768_S8x2048x768_2_0_01_1_n_n none
        (m ((c.tc : Thread nD τ).loc main_arg1)) (m ((c.tc : Thread nD τ).loc main_arg6)))
      (broadcastInDim S8x2048x768 ![0, 1, 2] bcast_S1x1x768_S8x2048x768_0_1_2
        (broadcastInDim S1x1x768 ![2] bcast_S768_S1x1x768_2 (m ((c.tc : Thread nD τ).loc main_arg7))))⟩,
     ⟨S8x128x768, addf (Host.dotGeneral (φ₁ := .f32) (φ₂ := .f32) dot_S8x128x1024_S1024x768_S8x128x768_2_0_01_1_n_n none
        (m ((c.tc : Thread nD τ).loc main_arg2)) (m ((c.tc : Thread nD τ).loc main_arg8)))
      (broadcastInDim S8x128x768 ![0, 1, 2] bcast_S1x1x768_S8x128x768_0_1_2
        (broadcastInDim S1x1x768 ![2] bcast_S768_S1x1x768_2 (m ((c.tc : Thread nD τ).loc main_arg9))))⟩,
     ⟨S8x32x768, addf (Host.dotGeneral (φ₁ := .f32) (φ₂ := .f32) dot_S8x32x1024_S1024x768_S8x32x768_2_0_01_1_n_n none
        (m ((c.tc : Thread nD τ).loc main_arg3)) (m ((c.tc : Thread nD τ).loc main_arg10)))
      (broadcastInDim S8x32x768 ![0, 1, 2] bcast_S1x1x768_S8x32x768_0_1_2
        (broadcastInDim S1x1x768 ![2] bcast_S768_S1x1x768_2 (m ((c.tc : Thread nD τ).loc main_arg11))))⟩]
    concatenates_S8x1024x768_S8x2048x768_S8x128x768_S8x32x768_S8x3232x768_d1

/-- The position rows. -/
def places : FVec Ideal S3232x768 .f32 :=
  Look.look gather_S4096x768_S3232x1_S3232x768_1_0_n_n_0_1_1768 (iotaInDim S3232 32 0) 4096#32 4095#32
    (m ((c.tc : Thread nD τ).loc main_arg13))
/-- The type rows. -/
def typeRows : FVec Ideal S3232x768 .f32 :=
  Look.look gather_S5x768_S3232x1_S3232x768_1_0_n_n_0_1_1768 kinds 5#32 4#32
    (m ((c.tc : Thread nD τ).loc main_arg12))

/-- One array of rows, the same for every batch entry. -/
def over (x : FVec Ideal S3232x768 .f32) : FVec Ideal S8x3232x768 .f32 :=
  broadcastInDim S8x3232x768 ![0, 1, 2] bcast_S1x3232x768_S8x3232x768_0_1_2
    (broadcastInDim S1x3232x768 ![1, 2] bcast_S3232x768_S1x3232x768_1_2 x)

/-- The rows before the normalisation. -/
def summed : FVec Ideal S8x3232x768 .f32 := addf (addf (products m c) (over (places m c))) (over (typeRows m c))

end

/-! ## The normalisation -/

/-- A column of row means. -/
def meanCol (x : FVec Ideal S8x3232x768 .f32) : FVec Ideal S8x3232x1 .f32 :=
  Host.divf (broadcastInDim S8x3232x1 ![0, 1] bcast_S8x3232_S8x3232x1_0_1
      (Host.reduceAdd x (constant S_ .f32 0x00000000#32) reducesTo_S8x3232x768_S8x3232_d2 h_S_))
    (broadcastInDim S8x3232x1 ![] bcast_S_S8x3232x1 (constant S_ .f32 0x44400000#32))
/-- The rows less their means. -/
def centred (x : FVec Ideal S8x3232x768 .f32) : FVec Ideal S8x3232x768 .f32 :=
  subf x (broadcastInDim S8x3232x768 ![0, 1, 2] bcast_S8x3232x1_S8x3232x768_0_1_2 (meanCol x))
/-- One row, the same for every row of the result. -/
def across (g : FVec Ideal S768 .f32) : FVec Ideal S8x3232x768 .f32 :=
  broadcastInDim S8x3232x768 ![0, 1, 2] bcast_S1x1x768_S8x3232x768_0_1_2 (broadcastInDim S1x1x768 ![2] bcast_S768_S1x1x768_2 g)
/-- The rows normalised, scaled and moved. -/
def normed (x : FVec Ideal S8x3232x768 .f32) (g b : FVec Ideal S768 .f32) : FVec Ideal S8x3232x768 .f32 :=
  addf (mulf (Host.divf (centred x) (broadcastInDim S8x3232x768 ![0, 1, 2] bcast_S8x3232x1_S8x3232x768_0_1_2
      (Host.sqrt (addf (meanCol (mulf (centred x) (centred x)))
        (broadcastInDim S8x3232x1 ![] bcast_S_S8x3232x1 (constant S_ .f32 0x2B8CBCCC#32)))))) (across g)) (across b)

/-- An entry of the normalised rows is its row normalised, at its place. -/
theorem normed_apply (x : FVec Ideal S8x3232x768 .f32) (g b : FVec Ideal S768 .f32) (e : Fin 8) (l : Fin 3232) (j : Fin 768) :
    normed x g b (ix3 e l j) = Norm.norm (fun i => x (ix3 e l i)) (g (ix1 j)) (b (ix1 j)) j := by
  pointwise [normed, across, centred, meanCol, Norm.norm, Norm.mean, Norm.spread, Norm.len, Norm.eps]

section
variable (m : (ℓ : Loc nD τ sig) → Buf (Elt Ideal) ℓ) (c : Dev nD)

/-- The reference's result is its rows, normalised. -/
theorem result_eq : Value.res_main_v54 m c
    = normed (summed m c) (m ((c.tc : Thread nD τ).loc main_arg14)) (m ((c.tc : Thread nD τ).loc main_arg15)) := rfl

/-- Row `l` of the positions is row `l` of the table. -/
theorem places_apply (l : Fin 3232) (j : Fin 768) :
    places m c (ix2 l j) = (m ((c.tc : Thread nD τ).loc main_arg13) : S4096x768.Idx → EReal) (ix2 ⟨l.val, by omega⟩ j) :=
  Look.look_apply (iotaInDim S3232 32 0) (fun l => l.val) (fun _ => rfl) _ rfl rfl rfl rfl rfl _ 4095 _
    (fun l => by omega) (by omega) (by omega) l j
/-- Row `l` of the types is the row of its segment's number. -/
theorem typeRows_apply (l : Fin 3232) (j : Fin 768) :
    typeRows m c (ix2 l j) = (m ((c.tc : Thread nD τ).loc main_arg12) : S5x768.Idx → EReal)
      (ix2 ⟨kindOf l.val, Nat.lt_succ_of_le (kindOf_le _)⟩ j) :=
  Look.look_apply kinds (fun l => kindOf l.val) kinds_apply _ rfl rfl rfl rfl rfl _ 4 _
    (fun l => kindOf_le _) (by omega) (by omega) l j

/-- Every batch entry gets the same rows. -/
theorem over_apply (x : FVec Ideal S3232x768 .f32) (e : Fin 8) (l : Fin 3232) (j : Fin 768) : over x (ix3 e l j) = x (ix2 l j) := by
  pointwise [over]

/-- A row times the weights, with the bias. -/
def line (x : Fin 1024 → EReal) (w : S1024x768.Idx → EReal) (b : S768.Idx → EReal) (j : Fin 768) : EReal :=
  (∑ k, x k * w (ix2 k j)) + b (ix1 j)

/-- An entry of the products: the segment its row lies in decides which. -/
theorem products_apply (e : Fin 8) (l : Fin 3232) (j : Fin 768) : products m c (ix3 e l j) =
    if h : l.val < 1024 then
      line (fun k => (m ((c.tc : Thread nD τ).loc main_arg0)) (ix3 e ⟨l.val, by omega⟩ k)) (m ((c.tc : Thread nD τ).loc main_arg4)) (m ((c.tc : Thread nD τ).loc main_arg5)) j
    else if h : l.val - 1024 < 2048 then
      line (fun k => (m ((c.tc : Thread nD τ).loc main_arg1)) (ix3 e ⟨l.val - 1024, by omega⟩ k)) (m ((c.tc : Thread nD τ).loc main_arg6)) (m ((c.tc : Thread nD τ).loc main_arg7)) j
    else if h : l.val - 1024 - 2048 < 128 then
      line (fun k => (m ((c.tc : Thread nD τ).loc main_arg2)) (ix3 e ⟨l.val - 1024 - 2048, by omega⟩ k)) (m ((c.tc : Thread nD τ).loc main_arg8)) (m ((c.tc : Thread nD τ).loc main_arg9)) j
    else
      line (fun k => (m ((c.tc : Thread nD τ).loc main_arg3)) (ix3 e ⟨l.val - 1024 - 2048 - 128, by omega⟩ k)) (m ((c.tc : Thread nD τ).loc main_arg10)) (m ((c.tc : Thread nD τ).loc main_arg11)) j := by
  pointwise [products, line]

/-- An entry of the rows before the normalisation. -/
theorem summed_apply (e : Fin 8) (l : Fin 3232) (j : Fin 768) : summed m c (ix3 e l j)
    = products m c (ix3 e l j) + (m ((c.tc : Thread nD τ).loc main_arg13) : S4096x768.Idx → EReal) (ix2 ⟨l.val, by omega⟩ j)
      + (m ((c.tc : Thread nD τ).loc main_arg12) : S5x768.Idx → EReal) (ix2 ⟨kindOf l.val, Nat.lt_succ_of_le (kindOf_le _)⟩ j) := by
  rw [← places_apply m c l j, ← typeRows_apply m c l j, ← over_apply (places m c) e l j, ← over_apply (typeRows m c) e l j]
  rfl

/-- An entry of the result. -/
theorem result_apply (e : Fin 8) (l : Fin 3232) (j : Fin 768) :
    (Value.res_main_v54 m c : S8x3232x768.Idx → EReal) (ix3 e l j) = Norm.norm (fun i => summed m c (ix3 e l i))
      ((m ((c.tc : Thread nD τ).loc main_arg14) : S768.Idx → EReal) (ix1 j))
      ((m ((c.tc : Thread nD τ).loc main_arg15) : S768.Idx → EReal) (ix1 j)) j := by
  rw [result_eq]
  exact normed_apply _ _ _ e l j

end

end Cert.Ref

end
-- ==== Proof.Equal.lean ====
module

public import proofs.«01_k».proof.Proof.Entry
public import proofs.«01_k».proof.Proof.Ref

/-! # The kernel's result is the reference's

Entry by entry: the same products, with the bias, the type row and the position row added in another
order, and the same normalisation, by the reciprocal root in the one and by the root in the other. -/

@[expose] public section

noncomputable section

namespace Cert.Equal

open Idealize.ShloMosaic Idealize.ShloMosaic.TcCoe
open Cert.Kernel.Hand

variable [Cert.ReferenceIdeal.Facts]

/-- Within a segment a row number is the row it names. -/
theorem xAt_of_lt {c : Dev Cert.Kernel.nD}
    (v : (b : Ref Cert.Kernel.sig .tc) → Buf (Elt Ideal) ((c : Thread Cert.Kernel.nD Cert.Kernel.τ).loc b))
    (s : Fin 4) (b : Fin 8) (p : ℕ) (h : p < Lof s) (k : Fin 1024) : xAt v s b p k = xA v s (ix3 b ⟨p, h⟩ k) := by
  unfold xAt
  congr 2
  exact Fin.ext (Nat.mod_eq_of_lt h)

section
variable (m : (ℓ : Loc Cert.Kernel.nD Cert.Kernel.τ Cert.Kernel.sig) → Buf (Elt Ideal) ℓ)
  (m' : (ℓ : Loc Cert.ReferenceIdeal.nD Cert.ReferenceIdeal.τ Cert.ReferenceIdeal.sig) → Buf (Elt Ideal) ℓ)
  (c : Dev Cert.Kernel.nD)

/-- The two memories agree on the arguments. -/
abbrev Same : Prop :=
  m' ((c.tc : Thread Cert.ReferenceIdeal.nD Cert.ReferenceIdeal.τ).loc Cert.ReferenceIdeal.main_arg0) = m ((c : Thread Cert.Kernel.nD Cert.Kernel.τ).loc Cert.Kernel.main_arg0) ∧
  m' ((c.tc : Thread Cert.ReferenceIdeal.nD Cert.ReferenceIdeal.τ).loc Cert.ReferenceIdeal.main_arg1) = m ((c : Thread Cert.Kernel.nD Cert.Kernel.τ).loc Cert.Kernel.main_arg1) ∧
  m' ((c.tc : Thread Cert.ReferenceIdeal.nD Cert.ReferenceIdeal.τ).loc Cert.ReferenceIdeal.main_arg2) = m ((c : Thread Cert.Kernel.nD Cert.Kernel.τ).loc Cert.Kernel.main_arg2) ∧
  m' ((c.tc : Thread Cert.ReferenceIdeal.nD Cert.ReferenceIdeal.τ).loc Cert.ReferenceIdeal.main_arg3) = m ((c : Thread Cert.Kernel.nD Cert.Kernel.τ).loc Cert.Kernel.main_arg3) ∧
  m' ((c.tc : Thread Cert.ReferenceIdeal.nD Cert.ReferenceIdeal.τ).loc Cert.ReferenceIdeal.main_arg4) = m ((c : Thread Cert.Kernel.nD Cert.Kernel.τ).loc Cert.Kernel.main_arg4) ∧
  m' ((c.tc : Thread Cert.ReferenceIdeal.nD Cert.ReferenceIdeal.τ).loc Cert.ReferenceIdeal.main_arg5) = m ((c : Thread Cert.Kernel.nD Cert.Kernel.τ).loc Cert.Kernel.main_arg5) ∧
  m' ((c.tc : Thread Cert.ReferenceIdeal.nD Cert.ReferenceIdeal.τ).loc Cert.ReferenceIdeal.main_arg6) = m ((c : Thread Cert.Kernel.nD Cert.Kernel.τ).loc Cert.Kernel.main_arg6) ∧
  m' ((c.tc : Thread Cert.ReferenceIdeal.nD Cert.ReferenceIdeal.τ).loc Cert.ReferenceIdeal.main_arg7) = m ((c : Thread Cert.Kernel.nD Cert.Kernel.τ).loc Cert.Kernel.main_arg7) ∧
  m' ((c.tc : Thread Cert.ReferenceIdeal.nD Cert.ReferenceIdeal.τ).loc Cert.ReferenceIdeal.main_arg8) = m ((c : Thread Cert.Kernel.nD Cert.Kernel.τ).loc Cert.Kernel.main_arg8) ∧
  m' ((c.tc : Thread Cert.ReferenceIdeal.nD Cert.ReferenceIdeal.τ).loc Cert.ReferenceIdeal.main_arg9) = m ((c : Thread Cert.Kernel.nD Cert.Kernel.τ).loc Cert.Kernel.main_arg9) ∧
  m' ((c.tc : Thread Cert.ReferenceIdeal.nD Cert.ReferenceIdeal.τ).loc Cert.ReferenceIdeal.main_arg10) = m ((c : Thread Cert.Kernel.nD Cert.Kernel.τ).loc Cert.Kernel.main_arg10) ∧
  m' ((c.tc : Thread Cert.ReferenceIdeal.nD Cert.ReferenceIdeal.τ).loc Cert.ReferenceIdeal.main_arg11) = m ((c : Thread Cert.Kernel.nD Cert.Kernel.τ).loc Cert.Kernel.main_arg11) ∧
  m' ((c.tc : Thread Cert.ReferenceIdeal.nD Cert.ReferenceIdeal.τ).loc Cert.ReferenceIdeal.main_arg12) = m ((c : Thread Cert.Kernel.nD Cert.Kernel.τ).loc Cert.Kernel.main_arg12) ∧
  m' ((c.tc : Thread Cert.ReferenceIdeal.nD Cert.ReferenceIdeal.τ).loc Cert.ReferenceIdeal.main_arg13) = m ((c : Thread Cert.Kernel.nD Cert.Kernel.τ).loc Cert.Kernel.main_arg13) ∧
  m' ((c.tc : Thread Cert.ReferenceIdeal.nD Cert.ReferenceIdeal.τ).loc Cert.ReferenceIdeal.main_arg14) = m ((c : Thread Cert.Kernel.nD Cert.Kernel.τ).loc Cert.Kernel.main_arg14) ∧
  m' ((c.tc : Thread Cert.ReferenceIdeal.nD Cert.ReferenceIdeal.τ).loc Cert.ReferenceIdeal.main_arg15) = m ((c : Thread Cert.Kernel.nD Cert.Kernel.τ).loc Cert.Kernel.main_arg15)

variable {m m' c}

/-- An entry before the normalisation, where the products agree with the kernel's. -/
theorem term_eq (H : Same m m' c) (s : Fin 4) (p : ℕ) (b : Fin 8) (l : Fin 3232) (i : Fin 768)
    (hs : seg (tileOf l.val) = s) (hp : lst (tileOf l.val) + (l.val - gst (tileOf l.val)) = p)
    (hk : Ref.kindOf l.val = s.val + 1)
    (hx : Ref.products m' c (ix3 b l i)
      = Ref.line (fun k => xAt (Cert.Kernel.Gen.V m c) s b p k) (wA (Cert.Kernel.Gen.V m c) s) (biasOf m c s) i) :
    (∑ k : Fin 1024, xAt (Cert.Kernel.Gen.V m c) (seg (tileOf l.val)) b (lst (tileOf l.val) + (l.val - gst (tileOf l.val))) k
          * wA (Cert.Kernel.Gen.V m c) (seg (tileOf l.val)) (ix2 k i))
        + (bA (Cert.Kernel.Gen.V m c) (ix3 (seg (tileOf l.val)) 0 i) + pAt (Cert.Kernel.Gen.V m c) l.val i)
      = Ref.summed m' c (ix3 b l i) := by
  have hb : bA (Cert.Kernel.Gen.V m c) (ix3 s 0 i) = biasOf m c s (ix1 i) + types m c (ix2 ⟨s.val + 1, by omega⟩ i) :=
    bias_apply m c s i
  have hq : pAt (Cert.Kernel.Gen.V m c) l.val i
      = (m' ((c.tc : Thread Cert.ReferenceIdeal.nD Cert.ReferenceIdeal.τ).loc Cert.ReferenceIdeal.main_arg13)
        : Cert.ReferenceIdeal.S4096x768.Idx → EReal) (ix2 ⟨l.val, by omega⟩ i) := by
    unfold pAt
    rw [Cert.Kernel.Gen.V_main_arg13, H.2.2.2.2.2.2.2.2.2.2.2.2.2.1]
    congr 2
    exact Fin.ext (Nat.mod_eq_of_lt (by omega))
  have ht : (m' ((c.tc : Thread Cert.ReferenceIdeal.nD Cert.ReferenceIdeal.τ).loc Cert.ReferenceIdeal.main_arg12)
        : Cert.ReferenceIdeal.S5x768.Idx → EReal) (ix2 ⟨Ref.kindOf l.val, Nat.lt_succ_of_le (Ref.kindOf_le _)⟩ i)
      = types m c (ix2 ⟨s.val + 1, by omega⟩ i) := by
    rw [H.2.2.2.2.2.2.2.2.2.2.2.2.1]
    unfold types
    congr 2
    exact Fin.ext hk
  rw [Ref.summed_apply, hx, hs, hp, hb, hq, ht]
  unfold Ref.line
  ac_rfl

/-- A row's product, with the rows and weights of a segment named. -/
theorem line_eq (s : Fin 4) (b : Fin 8) (p : ℕ) (h : p < Lof s) (x : (Sseg s).Idx → EReal) (w : Cert.Kernel.S1024x768.Idx → EReal)
    (hx : xA (Cert.Kernel.Gen.V m c) s = x) (hw : wA (Cert.Kernel.Gen.V m c) s = w) (z : Cert.Kernel.S768.Idx → EReal) (i : Fin 768) :
    Ref.line (fun k => x (ix3 b ⟨p, h⟩ k)) w z i
      = Ref.line (fun k => xAt (Cert.Kernel.Gen.V m c) s b p k) (wA (Cert.Kernel.Gen.V m c) s) z i := by
  simp only [xAt_of_lt _ s b p h]
  rw [hx, hw]

/-- The rows of segment 0 to 3 are those of tiles 0 to 3, 4 to 11, 12 and 13. -/
theorem place (l p : ℕ) (hl : l < 3232) (s : Fin 4)
    (h : s = 0 ∧ p = l ∧ l < 1024 ∨ s = 1 ∧ p = l - 1024 ∧ 1024 ≤ l ∧ l < 3072
      ∨ s = 2 ∧ p = l - 1024 - 2048 ∧ 3072 ≤ l ∧ l < 3200 ∨ s = 3 ∧ p = l - 1024 - 2048 - 128 ∧ 3200 ≤ l) :
    seg (tileOf l) = s ∧ lst (tileOf l) + (l - gst (tileOf l)) = p ∧ Ref.kindOf l = s.val + 1 := by
  rcases h with ⟨rfl, hp, h⟩ | ⟨rfl, hp, h⟩ | ⟨rfl, hp, h⟩ | ⟨rfl, hp, h⟩ <;>
    unfold tileOf seg lst gst Ref.kindOf <;> refine ⟨?_, ?_, ?_⟩ <;> split_ifs <;> first | omega | rfl

/-- An entry before the normalisation is the same on both sides. -/
theorem row_eq (H : Same m m' c) (b : Fin 8) (l : Fin 3232) (i : Fin 768) :
    (∑ k : Fin 1024, xAt (Cert.Kernel.Gen.V m c) (seg (tileOf l.val)) b (lst (tileOf l.val) + (l.val - gst (tileOf l.val))) k
          * wA (Cert.Kernel.Gen.V m c) (seg (tileOf l.val)) (ix2 k i))
        + (bA (Cert.Kernel.Gen.V m c) (ix3 (seg (tileOf l.val)) 0 i) + pAt (Cert.Kernel.Gen.V m c) l.val i)
      = Ref.summed m' c (ix3 b l i) := by
  have hl := l.isLt
  have P := Ref.products_apply m' c b l i
  obtain ⟨a0, a1, a2, a3, a4, a5, a6, a7, a8, a9, a10, a11, -⟩ := id H
  rw [a0, a1, a2, a3, a4, a5, a6, a7, a8, a9, a10, a11] at P
  by_cases h0 : l.val < 1024
  · obtain ⟨e1, e2, e3⟩ := place l.val _ hl 0 (.inl ⟨rfl, rfl, h0⟩)
    rw [dif_pos h0] at P
    exact term_eq H 0 _ b l i e1 e2 e3 (P.trans (line_eq 0 b _ h0 _ _ (Cert.Kernel.Gen.V_main_arg0 m c) (Cert.Kernel.Gen.V_main_arg4 m c) _ i))
  rw [dif_neg h0] at P
  by_cases h1 : l.val - 1024 < 2048
  · obtain ⟨e1, e2, e3⟩ := place l.val _ hl 1 (.inr (.inl ⟨rfl, rfl, by omega, by omega⟩))
    rw [dif_pos h1] at P
    exact term_eq H 1 _ b l i e1 e2 e3 (P.trans (line_eq 1 b _ h1 _ _ (Cert.Kernel.Gen.V_main_arg1 m c) (Cert.Kernel.Gen.V_main_arg6 m c) _ i))
  rw [dif_neg h1] at P
  by_cases h2 : l.val - 1024 - 2048 < 128
  · obtain ⟨e1, e2, e3⟩ := place l.val _ hl 2 (.inr (.inr (.inl ⟨rfl, rfl, by omega, by omega⟩)))
    rw [dif_pos h2] at P
    exact term_eq H 2 _ b l i e1 e2 e3 (P.trans (line_eq 2 b _ h2 _ _ (Cert.Kernel.Gen.V_main_arg2 m c) (Cert.Kernel.Gen.V_main_arg8 m c) _ i))
  rw [dif_neg h2] at P
  obtain ⟨e1, e2, e3⟩ := place l.val _ hl 3 (.inr (.inr (.inr ⟨rfl, rfl, by omega⟩)))
  have h3 : l.val - 1024 - 2048 - 128 < 32 := by omega
  exact term_eq H 3 _ b l i e1 e2 e3 (P.trans (line_eq 3 b _ h3 _ _ (Cert.Kernel.Gen.V_main_arg3 m c) (Cert.Kernel.Gen.V_main_arg10 m c) _ i))

/-- The kernel's result is the reference's. -/
theorem out_eq (m : (ℓ : Loc Cert.Kernel.nD Cert.Kernel.τ Cert.Kernel.sig) → Buf (Elt Ideal) ℓ)
    (m' : (ℓ : Loc Cert.ReferenceIdeal.nD Cert.ReferenceIdeal.τ Cert.ReferenceIdeal.sig) → Buf (Elt Ideal) ℓ)
    (c : Dev Cert.Kernel.nD) (H : Same m m' c) :
    OUT (Cert.Kernel.Gen.V m c) = Cert.ReferenceIdeal.Value.res_main_v54 m' c := by
  refine funext fun (x : Cert.Kernel.S8x3232x768.Idx) => ?_
  idx_vars x
  refine (OUT_apply _ x0 x1 x2).trans ?_
  refine Eq.trans ?_ (Ref.result_apply m' c x0 x1 x2).symm
  rw [Norm.normR_eq]
  have hg := gamma_apply m c x2
  have hb := beta_apply m c x2
  obtain ⟨-, -, -, -, -, -, -, -, -, -, -, -, -, -, a14, a15⟩ := id H
  rw [a14, a15]
  exact congr (congrFun (congrArg₂ Norm.norm (funext fun i => row_eq H x0 x1 i) hg) _ |>.trans (congrArg _ hb)) rfl

end

end Cert.Equal

end
-- ==== Proof.lean ====
module

public import proofs.«01_k».proof.Defs
public import proofs.«01_k».proof.Proof.Twice
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import proofs.«01_k».proof.Proof.Equal

/-! # The claims

The frames of the two kernels and of the reference, and — where stated — that the kernel's results are
the reference's. -/
@[expose] public section

noncomputable section

namespace Cert.Proof

open Idealize.ShloMosaic Idealize.SL.Sem

/-- The kernel as printed: terminates, keeps its arguments, leaves the semaphores at zero. -/
theorem frame_kernel : Cert.quiescent_Kernel := fun m g _ =>
  (θ_run _ _ _).mono (fun _ h => ⟨fun c => (h.1 c).2.2, h.2⟩) (Cert.Kernel.Hand.run_full m g)

/-- The kernel over the extended reals. -/
theorem frame_ideal : Cert.quiescent_KernelIdeal := fun m g _ =>
  (θ_run _ _ _).mono (fun _ h => ⟨fun c => (h.1 c).2.2, h.2⟩) (Cert.KernelIdeal.Hand.run_full m g)

/-- The reference over the extended reals. It has no semaphore. -/
theorem frame_reference : Cert.quiescent_ReferenceIdeal := fun m g _ =>
  (θ_run _ _ _).mono (fun r h => ⟨fun c => (h c).2.2, sem_eq_zero_of_no_sems (by decide) r.2⟩)
    (Cert.ReferenceIdeal.Value.run m g)

/-- The kernel's results are the reference's, over the extended reals. -/
theorem equal : Cert.algebraic_KernelIdeal_ReferenceIdeal := by
  intro m g m' g' _ h
  refine ⟨fun c => Cert.Kernel.Hand.OUT (Cert.Kernel.Gen.V m c), fun c => Cert.Kernel.Hand.TRUE, ?_, ?_⟩
  · exact (θ_run _ _ _).mono (fun _ h c => h.1 c) (Cert.KernelIdeal.Hand.run_full m g)
  · exact (θ_run _ _ _).mono (fun _ k c => ⟨(k c).1.trans (Cert.Equal.out_eq m m' c (h c)).symm, (k c).2⟩)
      (Cert.ReferenceIdeal.Value.run m' g')

theorem claim : Cert.Claim := ⟨Cert.Kernel.Gen.facts, Cert.KernelIdeal.Gen.facts, Cert.ReferenceIdeal.Gen.facts,
  frame_kernel, frame_ideal, frame_reference, trivial, equal⟩

end Cert.Proof

end
